-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log_base" .f32 0x41135D8E#32 ((Real.log 10000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x768x64x64 : Shape := ⟨4, ![8, 768, 64, 64]⟩
abbrev S32x768 : Shape := ⟨2, ![32, 768]⟩
abbrev S32 : Shape := ⟨1, ![32]⟩
abbrev S8192x32 : Shape := ⟨2, ![8192, 32]⟩
abbrev S_ : Shape := ⟨0, ![]⟩

class Facts : Prop where
  bcast_S_S8x768x64x64 : S_.BroadcastsInDim S8x768x64x64 (![] : Fin 0 → Fin S8x768x64x64.rank)
  bcast_S_S32x768 : S_.BroadcastsInDim S32x768 (![] : Fin 0 → Fin S32x768.rank)
  bcast_S_S32 : S_.BroadcastsInDim S32 (![] : Fin 0 → Fin S32.rank)
  bcast_S_S8192x32 : S_.BroadcastsInDim S8192x32 (![] : Fin 0 → Fin S8192x32.rank)

variable [Facts]

def fn {F : FTy → Type} [FloatOps F] (main_arg0 : FVec F S8x768x64x64 .f32) (main_arg1 : FVec F S32x768 .f32) (main_arg2 : FVec F S32 .f32) (main_arg3 : FVec F S8192x32 .f32) (main_arg4 : FVec F S32 .f32) (main_arg5 : FVec F S32 .f32) : IVec S8x768x64x64 1 × IVec S32x768 1 × IVec S32 1 × IVec S8192x32 1 :=
  let main_v0 : FVec F S8x768x64x64 .f32 := Host.absf main_arg0
  let main_cst : FVec F S_ .f32 := constant S_ .f32 0x7F800000#32
  let main_v1 : FVec F S8x768x64x64 .f32 := broadcastInDim S8x768x64x64 ![] bcast_S_S8x768x64x64 main_cst
  let main_v2 : IVec S8x768x64x64 1 := cmpf .olt main_v0 main_v1
  let main_v3 : FVec F S32x768 .f32 := Host.absf main_arg1
  let main_cst_0 : FVec F S_ .f32 := constant S_ .f32 0x7F800000#32
  let main_v4 : FVec F S32x768 .f32 := broadcastInDim S32x768 ![] bcast_S_S32x768 main_cst_0
  let main_v5 : IVec S32x768 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S8192x32 .f32 := Host.absf main_arg3
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  (main_v2, main_v5, main_v8, main_v11)
-- ==== Kernel.lean ====
abbrev S8x768x64x64 : Shape := ⟨4, ![8, 768, 64, 64]⟩
abbrev S32x768 : Shape := ⟨2, ![32, 768]⟩
abbrev S32 : Shape := ⟨1, ![32]⟩
abbrev S8192x32 : Shape := ⟨2, ![8192, 32]⟩
abbrev S8x768x32x2x32x2 : Shape := ⟨6, ![8, 768, 32, 2, 32, 2]⟩
abbrev S_ : Shape := ⟨0, ![]⟩
abbrev S8x768x32x32 : Shape := ⟨4, ![8, 768, 32, 32]⟩
abbrev S32x8x32x32 : Shape := ⟨4, ![32, 8, 32, 32]⟩
abbrev S8x32x32x32 : Shape := ⟨4, ![8, 32, 32, 32]⟩
abbrev S1x32x1x1 : Shape := ⟨4, ![1, 32, 1, 1]⟩
abbrev S32x8192 : Shape := ⟨2, ![32, 8192]⟩
abbrev S8192 : Shape := ⟨1, ![8192]⟩
abbrev S8192x1 : Shape := ⟨2, ![8192, 1]⟩
abbrev S1x8192 : Shape := ⟨2, ![1, 8192]⟩
abbrev S32x1 : Shape := ⟨2, ![32, 1]⟩
abbrev S32x1024 : Shape := ⟨2, ![32, 1024]⟩
abbrev S1x1024 : Shape := ⟨2, ![1, 1024]⟩
abbrev S32x2048 : Shape := ⟨2, ![32, 2048]⟩
abbrev S2048x1 : Shape := ⟨2, ![2048, 1]⟩
abbrev S2048x1024 : Shape := ⟨2, ![2048, 1024]⟩
abbrev S1024 : Shape := ⟨1, ![1024]⟩
abbrev S8x1024x32 : Shape := ⟨3, ![8, 1024, 32]⟩
abbrev S8x1024 : Shape := ⟨2, ![8, 1024]⟩

abbrev nBuf : Space → Nat
  | .hbm => 35
  | .vmem => 10
  | .smem => 0
  | _ => 0

abbrev bufTy : (tb : Table) → Fin (tcTables nBuf tb) → BufTy
  | .hbm, ⟨0, _⟩ => ⟨S8x768x64x64, .f32⟩
  | .hbm, ⟨1, _⟩ => ⟨S32x768, .f32⟩
  | .hbm, ⟨2, _⟩ => ⟨S32, .f32⟩
  | .hbm, ⟨3, _⟩ => ⟨S8192x32, .f32⟩
  | .hbm, ⟨4, _⟩ => ⟨S32, .f32⟩
  | .hbm, ⟨5, _⟩ => ⟨S32, .f32⟩
  | .hbm, ⟨6, _⟩ => ⟨S8x768x32x2x32x2, .f32⟩
  | .hbm, ⟨7, _⟩ => ⟨S_, .f32⟩
  | .hbm, ⟨8, _⟩ => ⟨S8x768x32x32, .f32⟩
  | .hbm, ⟨9, _⟩ => ⟨S32x8x32x32, .f32⟩
  | .hbm, ⟨10, _⟩ => ⟨S8x32x32x32, .f32⟩
  | .hbm, ⟨11, _⟩ => ⟨S1x32x1x1, .f32⟩
  | .hbm, ⟨12, _⟩ => ⟨S8x32x32x32, .f32⟩
  | .hbm, ⟨13, _⟩ => ⟨S8x32x32x32, .f32⟩
  | .hbm, ⟨14, _⟩ => ⟨S8x32x32x32, .f32⟩
  | .hbm, ⟨15, _⟩ => ⟨S8192x32, .f32⟩
  | .hbm, ⟨16, _⟩ => ⟨S8192x32, .bf16⟩
  | .hbm, ⟨17, _⟩ => ⟨S32x8192, .bf16⟩
  | .hbm, ⟨18, _⟩ => ⟨S8192x32, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x32, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S32x8192, .f32⟩
  | .hbm, ⟨27, _⟩ => ⟨S1x8192, .f32⟩
  | .hbm, ⟨28, _⟩ => ⟨S32x1, .f32⟩
  | .hbm, ⟨29, _⟩ => ⟨S32x1, .f32⟩
  | .hbm, ⟨30, _⟩ => ⟨S32x8192, .f32⟩
  | .hbm, ⟨31, _⟩ => ⟨S8192x32, .f32⟩
  | .hbm, ⟨32, _⟩ => ⟨S8x1024x32, .f32⟩
  | .hbm, ⟨33, _⟩ => ⟨S_, .i32⟩
  | .hbm, ⟨34, _⟩ => ⟨S8x1024, .i32⟩
  | .local _ .vmem, ⟨0, _⟩ => ⟨S32x1024, .bf16⟩
  | .local _ .vmem, ⟨1, _⟩ => ⟨S32x1024, .bf16⟩
  | .local _ .vmem, ⟨2, _⟩ => ⟨S32x8192, .f32⟩
  | .local _ .vmem, ⟨3, _⟩ => ⟨S1x1024, .f32⟩
  | .local _ .vmem, ⟨4, _⟩ => ⟨S1x1024, .f32⟩
  | .local _ .vmem, ⟨5, _⟩ => ⟨S8192x1, .f32⟩
  | .local _ .vmem, ⟨6, _⟩ => ⟨S32x1, .f32⟩
  | .local _ .vmem, ⟨7, _⟩ => ⟨S32x1, .f32⟩
  | .local _ .vmem, ⟨8, _⟩ => ⟨S32x1024, .f32⟩
  | .local _ .vmem, ⟨9, _⟩ => ⟨S32x1024, .f32⟩
  | _, _ => ⟨S8x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log_base" => some ((Real.log 10000 : ℝ) : EReal)
  | _ => none
-- ==== ReferenceIdeal.lean ====
abbrev S8x768x64x64 : Shape := ⟨4, ![8, 768, 64, 64]⟩
abbrev S32x768 : Shape := ⟨2, ![32, 768]⟩
abbrev S32 : Shape := ⟨1, ![32]⟩
abbrev S8192x32 : Shape := ⟨2, ![8192, 32]⟩
abbrev S8x768x32x2x32x2 : Shape := ⟨6, ![8, 768, 32, 2, 32, 2]⟩
abbrev S_ : Shape := ⟨0, ![]⟩
abbrev S8x768x32x32 : Shape := ⟨4, ![8, 768, 32, 32]⟩
abbrev S32x8x32x32 : Shape := ⟨4, ![32, 8, 32, 32]⟩
abbrev S8x32x32x32 : Shape := ⟨4, ![8, 32, 32, 32]⟩
abbrev S1x32x1x1 : Shape := ⟨4, ![1, 32, 1, 1]⟩
abbrev S8192 : Shape := ⟨1, ![8192]⟩
abbrev S8192x1 : Shape := ⟨2, ![8192, 1]⟩
abbrev S1x8192 : Shape := ⟨2, ![1, 8192]⟩
abbrev S32x8192 : Shape := ⟨2, ![32, 8192]⟩
abbrev S8192x8192 : Shape := ⟨2, ![8192, 8192]⟩
abbrev S1 : Shape := ⟨1, ![1]⟩
abbrev S1x1 : Shape := ⟨2, ![1, 1]⟩
abbrev S8x1024x32 : Shape := ⟨3, ![8, 1024, 32]⟩
abbrev S8x32x1024 : Shape := ⟨3, ![8, 32, 1024]⟩
abbrev S8x32x32 : Shape := ⟨3, ![8, 32, 32]⟩
abbrev S8x1x32 : Shape := ⟨3, ![8, 1, 32]⟩
abbrev S8x32x1 : Shape := ⟨3, ![8, 32, 1]⟩
abbrev S16 : Shape := ⟨1, ![16]⟩
abbrev S8x32x32x1 : Shape := ⟨4, ![8, 32, 32, 1]⟩
abbrev S1x1x1x16 : Shape := ⟨4, ![1, 1, 1, 16]⟩
abbrev S8x32x32x16 : Shape := ⟨4, ![8, 32, 32, 16]⟩
abbrev S8x32x32x8 : Shape := ⟨4, ![8, 32, 32, 8]⟩
abbrev S8x32x32x8x1 : Shape := ⟨5, ![8, 32, 32, 8, 1]⟩
abbrev S8x32x32x8x2 : Shape := ⟨5, ![8, 32, 32, 8, 2]⟩
abbrev S8x1024 : Shape := ⟨2, ![8, 1024]⟩
abbrev S8x1024x1 : Shape := ⟨3, ![8, 1024, 1]⟩
abbrev S1x1x32 : Shape := ⟨3, ![1, 1, 32]⟩

abbrev nBuf : Space → Nat
  | .hbm => 189
  | .vmem => 0
  | .smem => 0
  | _ => 0

abbrev hbmTy0_0 (i : Nat) : BufTy := match i % 128 with
  | 0 => ⟨S8x768x64x64, .f32⟩
  | 1 => ⟨S32x768, .f32⟩
  | 2 => ⟨S32, .f32⟩
  | 3 => ⟨S8192x32, .f32⟩
  | 4 => ⟨S32, .f32⟩
  | 5 => ⟨S32, .f32⟩
  | 6 => ⟨S8x768x32x2x32x2, .f32⟩
  | 7 => ⟨S_, .f32⟩
  | 8 => ⟨S8x768x32x32, .f32⟩
  | 9 => ⟨S32x8x32x32, .f32⟩
  | 10 => ⟨S8x32x32x32, .f32⟩
  | 11 => ⟨S1x32x1x1, .f32⟩
  | 12 => ⟨S8x32x32x32, .f32⟩
  | 13 => ⟨S8x32x32x32, .f32⟩
  | 14 => ⟨S8x32x32x32, .f32⟩
  | 15 => ⟨S8192x32, .f32⟩
  | 16 => ⟨S8192x32, .f32⟩
  | 17 => ⟨S_, .f32⟩
  | 18 => ⟨S8192, .f32⟩
  | 19 => ⟨S8192x1, .f32⟩
  | 20 => ⟨S8192x32, .f32⟩
  | 21 => ⟨S_, .f32⟩
  | 22 => ⟨S8192, .f32⟩
  | 23 => ⟨S1x8192, .f32⟩
  | 24 => ⟨S32x8192, .f32⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S8192x8192, .f32⟩
  | 31 => ⟨S8192x8192, .f32⟩
  | 32 => ⟨S8192x8192, .f32⟩
  | 33 => ⟨S8192x8192, .i32⟩
  | 34 => ⟨S_, .f32⟩
  | 35 => ⟨S_, .i32⟩
  | 36 => ⟨S8192, .f32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S1, .i32⟩
  | 47 => ⟨S_, .i32⟩
  | 48 => ⟨S8192x1, .i32⟩
  | 49 => ⟨S8192x1, .i1⟩
  | 50 => ⟨S1x1, .i32⟩
  | 51 => ⟨S8192x1, .i32⟩
  | 52 => ⟨S8192x1, .i1⟩
  | 53 => ⟨S8192x1, .i1⟩
  | 54 => ⟨S_, .i1⟩
  | 55 => ⟨S8192, .i1⟩
  | 56 => ⟨S8192x32, .f32⟩
  | 57 => ⟨S8192x32, .i1⟩
  | 58 => ⟨S_, .f32⟩
  | 59 => ⟨S8192x32, .f32⟩
  | 60 => ⟨S8192x32, .f32⟩
  | 61 => ⟨S8192x32, .f32⟩
  | 62 => ⟨S8192x32, .f32⟩
  | 63 => ⟨S8x1024x32, .f32⟩
  | 64 => ⟨S8x32x1024, .f32⟩
  | 65 => ⟨S8x32x32x32, .f32⟩
  | 66 => ⟨S_, .f32⟩
  | 67 => ⟨S8x32x32, .f32⟩
  | 68 => ⟨S_, .f32⟩
  | 69 => ⟨S_, .f32⟩
  | 70 => ⟨S8x32x32, .f32⟩
  | 71 => ⟨S_, .f32⟩
  | 72 => ⟨S_, .f32⟩
  | 73 => ⟨S8x32x32, .f32⟩
  | 74 => ⟨S8x1x32, .f32⟩
  | 75 => ⟨S_, .f32⟩
  | 76 => ⟨S8x1x32, .f32⟩
  | 77 => ⟨S8x1x32, .f32⟩
  | 78 => ⟨S8x32x32, .f32⟩
  | 79 => ⟨S8x32x32, .f32⟩
  | 80 => ⟨S_, .f32⟩
  | 81 => ⟨S8x32x32, .f32⟩
  | 82 => ⟨S8x32x32, .f32⟩
  | 83 => ⟨S_, .f32⟩
  | 84 => ⟨S8x32x32, .f32⟩
  | 85 => ⟨S8x32x32, .f32⟩
  | 86 => ⟨S8x32x1, .f32⟩
  | 87 => ⟨S_, .f32⟩
  | 88 => ⟨S8x32x1, .f32⟩
  | 89 => ⟨S8x32x1, .f32⟩
  | 90 => ⟨S8x32x32, .f32⟩
  | 91 => ⟨S8x32x32, .f32⟩
  | 92 => ⟨S_, .f32⟩
  | 93 => ⟨S8x32x32, .f32⟩
  | 94 => ⟨S8x32x32, .f32⟩
  | 95 => ⟨S_, .f32⟩
  | 96 => ⟨S8x32x32, .f32⟩
  | 97 => ⟨S8x32x32, .f32⟩
  | 98 => ⟨S16, .f32⟩
  | 99 => ⟨S_, .f32⟩
  | 100 => ⟨S16, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S8x32x32x1, .f32⟩
  | 113 => ⟨S1x1x1x16, .f32⟩
  | 114 => ⟨S8x32x32x16, .f32⟩
  | 115 => ⟨S8x32x32x16, .f32⟩
  | 116 => ⟨S8x32x32x16, .f32⟩
  | 117 => ⟨S8x32x32x1, .f32⟩
  | 118 => ⟨S1x1x1x16, .f32⟩
  | 119 => ⟨S8x32x32x16, .f32⟩
  | 120 => ⟨S8x32x32x16, .f32⟩
  | 121 => ⟨S8x32x32x16, .f32⟩
  | 122 => ⟨S8x32x32x8, .f32⟩
  | 123 => ⟨S8x32x32x8, .f32⟩
  | 124 => ⟨S8x32x32x8, .f32⟩
  | 125 => ⟨S8x32x32x8, .f32⟩
  | 126 => ⟨S8x32x32x8x1, .f32⟩
  | 127 => ⟨S8x32x32x8x1, .f32⟩
  | _ => ⟨S8x768x64x64, .f32⟩

abbrev hbmTy0_1 (i : Nat) : BufTy := match i % 128 with
  | 0 => ⟨S8x32x32x8x2, .f32⟩
  | 1 => ⟨S8x32x32x16, .f32⟩
  | 2 => ⟨S8x32x32x8, .f32⟩
  | 3 => ⟨S8x32x32x8, .f32⟩
  | 4 => ⟨S8x32x32x8, .f32⟩
  | 5 => ⟨S8x32x32x8, .f32⟩
  | 6 => ⟨S8x32x32x8x1, .f32⟩
  | 7 => ⟨S8x32x32x8x1, .f32⟩
  | 8 => ⟨S8x32x32x8x2, .f32⟩
  | 9 => ⟨S8x32x32x16, .f32⟩
  | 10 => ⟨S8x32x32x32, .f32⟩
  | 11 => ⟨S8x32x32x32, .f32⟩
  | 12 => ⟨S8x32x32x32, .f32⟩
  | 13 => ⟨S8x32x1024, .f32⟩
  | 14 => ⟨S8x1024x32, .f32⟩
  | 15 => ⟨S_, .f32⟩
  | 16 => ⟨S8x1024, .f32⟩
  | 17 => ⟨S8x1024x1, .f32⟩
  | 18 => ⟨S_, .f32⟩
  | 19 => ⟨S8x1024x1, .f32⟩
  | 20 => ⟨S8x1024x1, .f32⟩
  | 21 => ⟨S_, .i32⟩
  | 22 => ⟨S_, .f32⟩
  | 23 => ⟨S8x1024, .f32⟩
  | 24 => ⟨S8x1024x1, .f32⟩
  | 25 => ⟨S_, .f32⟩
  | 26 => ⟨S8x1024x1, .f32⟩
  | 27 => ⟨S8x1024x1, .f32⟩
  | 28 => ⟨S8x1024x32, .f32⟩
  | 29 => ⟨S8x1024x32, .f32⟩
  | 30 => ⟨S8x1024x32, .f32⟩
  | 31 => ⟨S_, .f32⟩
  | 32 => ⟨S_, .f32⟩
  | 33 => ⟨S_, .f32⟩
  | 34 => ⟨S_, .f32⟩
  | 35 => ⟨S8x1024, .f32⟩
  | 36 => ⟨S8x1024x1, .f32⟩
  | 37 => ⟨S8x1024x1, .f32⟩
  | 38 => ⟨S8x1024x1, .f32⟩
  | 39 => ⟨S_, .f32⟩
  | 40 => ⟨S_, .i1⟩
  | 41 => ⟨S_, .f32⟩
  | 42 => ⟨S_, .f32⟩
  | 43 => ⟨S8x1024x1, .f32⟩
  | 44 => ⟨S8x1024x1, .f32⟩
  | 45 => ⟨S8x1024x32, .f32⟩
  | 46 => ⟨S8x1024x32, .f32⟩
  | 47 => ⟨S_, .f32⟩
  | 48 => ⟨S8x1024x1, .f32⟩
  | 49 => ⟨S8x1024x1, .f32⟩
  | 50 => ⟨S8x1024x1, .f32⟩
  | 51 => ⟨S8x1024x32, .f32⟩
  | 52 => ⟨S8x1024x32, .f32⟩
  | 53 => ⟨S1x1x32, .f32⟩
  | 54 => ⟨S8x1024x32, .f32⟩
  | 55 => ⟨S8x1024x32, .f32⟩
  | 56 => ⟨S1x1x32, .f32⟩
  | 57 => ⟨S8x1024x32, .f32⟩
  | 58 => ⟨S8x1024x32, .f32⟩
  | 59 => ⟨S_, .i32⟩
  | 60 => ⟨S8x1024, .i32⟩
  | _ => ⟨S8x768x64x64, .f32⟩

abbrev hbmTy (i : Nat) : BufTy := match i / 128 with
  | 0 => hbmTy0_0 i
  | 1 => hbmTy0_1 i
  | _ => ⟨S8x768x64x64, .f32⟩

abbrev bufTy : (tb : Table) → Fin (tcTables nBuf tb) → BufTy
  | .hbm, ⟨i, _⟩ => hbmTy i
  | _, _ => ⟨S8x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_cst : Ref sig .tc := ⟨.hbm, 34, rfl⟩
abbrev main_call0_c : Ref sig .tc := ⟨.hbm, 35, rfl⟩
abbrev main_call0_v1_0 : Ref sig .tc := ⟨.hbm, 36, rfl⟩
abbrev main_v23 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_call2_call0_cst : Ref sig .tc := ⟨.hbm, 68, rfl⟩
abbrev main_call2_call0_v0 : Ref sig .tc := ⟨.hbm, 69, rfl⟩
abbrev main_v31 : Ref sig .tc := ⟨.hbm, 70, rfl⟩
abbrev main_call3_call0_cst : Ref sig .tc := ⟨.hbm, 71, rfl⟩
abbrev main_call3_call0_v0 : Ref sig .tc := ⟨.hbm, 72, rfl⟩
abbrev main_v32 : Ref sig .tc := ⟨.hbm, 73, rfl⟩
abbrev main_v33 : Ref sig .tc := ⟨.hbm, 74, rfl⟩
abbrev main_cst_4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_5 : Ref sig .tc := ⟨.hbm, 80, rfl⟩
abbrev main_v38 : Ref sig .tc := ⟨.hbm, 81, rfl⟩
abbrev main_v39 : Ref sig .tc := ⟨.hbm, 82, rfl⟩
abbrev main_cst_6 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_7 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_8 : Ref sig .tc := ⟨.hbm, 92, rfl⟩
abbrev main_v47 : Ref sig .tc := ⟨.hbm, 93, rfl⟩
abbrev main_v48 : Ref sig .tc := ⟨.hbm, 94, rfl⟩
abbrev main_cst_9 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_10 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_11 : Ref sig .tc := ⟨.hbm, 103, rfl⟩
abbrev main_v55 : Ref sig .tc := ⟨.hbm, 104, rfl⟩
abbrev main_v56 : Ref sig .tc := ⟨.hbm, 105, rfl⟩
abbrev main_cst_12 : Ref sig .tc := ⟨.hbm, 106, rfl⟩
abbrev main_v57 : Ref sig .tc := ⟨.hbm, 107, rfl⟩
abbrev main_v58 : Ref sig .tc := ⟨.hbm, 108, rfl⟩
abbrev main_cst_13 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_14 : Ref sig .tc := ⟨.hbm, 143, rfl⟩
abbrev main_v92 : Ref sig .tc := ⟨.hbm, 144, rfl⟩
abbrev main_v93 : Ref sig .tc := ⟨.hbm, 145, rfl⟩
abbrev main_cst_15 : Ref sig .tc := ⟨.hbm, 146, rfl⟩
abbrev main_v94 : Ref sig .tc := ⟨.hbm, 147, rfl⟩
abbrev main_v95 : Ref sig .tc := ⟨.hbm, 148, rfl⟩
abbrev main_c : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_cst_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_v7 : Ref sig .tc := ⟨.hbm, 159, rfl⟩
abbrev main_call4_cst_1 : Ref sig .tc := ⟨.hbm, 160, rfl⟩
abbrev main_call4_v8 : Ref sig .tc := ⟨.hbm, 161, rfl⟩
abbrev main_call4_cst_2 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_v12 : Ref sig .tc := ⟨.hbm, 166, rfl⟩
abbrev main_call4_cst_3 : Ref sig .tc := ⟨.hbm, 167, rfl⟩
abbrev main_call4_v13 : Ref sig .tc := ⟨.hbm, 168, rfl⟩
abbrev main_call4_cst_4 : Ref sig .tc := ⟨.hbm, 169, rfl⟩
abbrev main_call4_call0_v0 : Ref sig .tc := ⟨.hbm, 170, rfl⟩
abbrev main_call4_call0_v1 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_16 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_c_17 : Ref sig .tc := ⟨.hbm, 187, rfl⟩
abbrev main_v110 : Ref sig .tc := ⟨.hbm, 188, rfl⟩

abbrev nD : Nat := 1
abbrev τ : Topo := Topo.v7x

variable {F : FTy → Type} [FloatOps F]
-- ==== Proof.RefRun.lean ====
/- The reference program's host line cut into fourteen stretches, each with the term it leaves at its results; from these the
   run of the whole program, its results as one function of the arguments. -/
module

public import proofs.«01_k».proof.Proof.Gen.ReferenceIdeal
public import Idealize.ShloMosaic.Lib.StableHlo.Run
public import Idealize.ShloMosaic.Lib.StableHlo.RunRead
public import Idealize.ShloMosaic.PureOps.Ideal

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen

variable {F : FTy → Type} [FloatOps F]

/-- Two arrays laid side by side along the last axis. -/
def catS8x32x32x8x2 (a : (⟨S8x32x32x8x1, .f32⟩ : BufTy).Contents (Elt F)) (b : (⟨S8x32x32x8x1, .f32⟩ : BufTy).Contents (Elt F)) : (⟨S8x32x32x8x2, .f32⟩ : BufTy).Contents (Elt F) :=
  concatenate S8x32x32x8x2 4 [⟨S8x32x32x8x1, a⟩, ⟨S8x32x32x8x1, b⟩] concatenates_S8x32x32x8x1_S8x32x32x8x1_S8x32x32x8x2_d4

/-- Two arrays laid side by side along the last axis. -/
def catS8x32x32x32 (a : (⟨S8x32x32x16, .f32⟩ : BufTy).Contents (Elt F)) (b : (⟨S8x32x32x16, .f32⟩ : BufTy).Contents (Elt F)) : (⟨S8x32x32x32, .f32⟩ : BufTy).Contents (Elt F) :=
  concatenate S8x32x32x32 3 [⟨S8x32x32x16, a⟩, ⟨S8x32x32x16, b⟩] concatenates_S8x32x32x16_S8x32x32x16_S8x32x32x32_d3

/-- Two stretches run one after the other. -/
theorem after_append_ (l₁ l₂ : List (HloOp τ sig (Elt F))) (V : Valuation τ sig (Elt F)) :
    after (l₁ ++ l₂) V = after l₂ (after l₁ V) := by
  induction l₁ generalizing V with
  | nil => rfl
  | cons op l ih => exact ih _

/-- Stretch 1 of the line: it leaves main_v8. -/
def seg1 : List (HloOp τ sig (Elt F)) :=
  [reshape main_arg0 main_v0 (rfl : (.f32 : EltTy) = .f32) shapeCasts_S8x768x64x64_S8x768x32x2x32x2,
   nullary main_cst (constant S_ .f32 0xFF800000#32),
   binary main_v0 main_cst main_v1 ((fun x v => Host.reduce FloatOps.maximumf x v reducesTo_S8x768x32x2x32x2_S8x768x32x32_d3_5 h_S_) : (⟨S8x768x32x2x32x2, .f32⟩ : BufTy).Contents (Elt F) → (⟨S_, .f32⟩ : BufTy).Contents (Elt F) → (⟨S8x768x32x32, .f32⟩ : BufTy).Contents (Elt F)),
   binary main_arg1 main_v1 main_v2 ((fun l r => Host.dotGeneral dot_S32x768_S8x768x32x32_S32x8x32x32_1_1_0_023_n_n none l r) : (⟨S32x768, .f32⟩ : BufTy).Contents (Elt F) → (⟨S8x768x32x32, .f32⟩ : BufTy).Contents (Elt F) → (⟨S32x8x32x32, .f32⟩ : BufTy).Contents (Elt F)),
   unary main_v2 main_v3 ((transpose S8x32x32x32 [1, 0, 2, 3] · transposes_S32x8x32x32_S8x32x32x32_1_0_2_3) : (⟨S32x8x32x32, .f32⟩ : BufTy).Contents (Elt F) → (⟨S8x32x32x32, .f32⟩ : BufTy).Contents (Elt F)),
   unary main_arg2 main_v4 (broadcastInDim S1x32x1x1 ![1] bcast_S32_S1x32x1x1_1 : (⟨S32, .f32⟩ : BufTy).Contents (Elt F) → (⟨S1x32x1x1, .f32⟩ : BufTy).Contents (Elt F)),
   unary main_v4 main_v5 (broadcastInDim S8x32x32x32 ![0, 1, 2, 3] bcast_S1x32x1x1_S8x32x32x32_0_1_2_3 : (⟨S1x32x1x1, .f32⟩ : BufTy).Contents (Elt F) → (⟨S8x32x32x32, .f32⟩ : BufTy).Contents (Elt F)),
   binary main_v3 main_v5 main_v6 (addf : (⟨S8x32x32x32, .f32⟩ : BufTy).Contents (Elt F) → (⟨S8x32x32x32, .f32⟩ : BufTy).Contents (Elt F) → (⟨S8x32x32x32, .f32⟩ : BufTy).Contents (Elt F)),
   unary main_v6 main_v7 ((transpose S8x32x32x32 [0, 2, 3, 1] · transposes_S8x32x32x32_S8x32x32x32_0_2_3_1) : (⟨S8x32x32x32, .f32⟩ : BufTy).Contents (Elt F) → (⟨S8x32x32x32, .f32⟩ : BufTy).Contents (Elt F)),
   reshape main_v7 main_v8 (rfl : (.f32 : EltTy) = .f32) shapeCasts_S8x32x32x32_S8192x32]

/-- Stretch 1 leaves every buffer that it does not write. -/
theorem seg1_keep {r : Ref sig .tc} (hr : r ∉ ([main_v0, main_cst, main_v1, main_v2, main_v3, main_v4, main_v5, main_v6, main_v7, main_v8] : List (Ref sig .tc)))
    (V : Valuation τ sig (Elt F)) : after seg1 V (Proc.devRef .tc r) = V (Proc.devRef .tc r) :=
  after_unwritten _ rfl hr V

/-- What stretch 1 leaves at v8, of arg0, arg1, arg2. -/
def t_v8 (arg0 : (⟨S8x768x64x64, .f32⟩ : BufTy).Contents (Elt F)) (arg1 : (⟨S32x768, .f32⟩ : BufTy).Contents (Elt F)) (arg2 : (⟨S32, .f32⟩ : BufTy).Contents (Elt F)) : (⟨S8192x32, .f32⟩ : BufTy).Contents (Elt F) :=
  (shapeCast S8192x32 (transpose S8x32x32x32 [0, 2, 3, 1] (addf (transpose S8x32x32x32 [1, 0, 2, 3] (Host.dotGeneral dot_S32x768_S8x768x32x32_S32x8x32x32_1_1_0_023_n_n none arg1 (Host.reduce FloatOps.maximumf (shapeCast S8x768x32x2x32x2 arg0 shapeCasts_S8x768x64x64_S8x768x32x2x32x2) (constant S_ .f32 0xFF800000#32) reducesTo_S8x768x32x2x32x2_S8x768x32x32_d3_5 h_S_)) transposes_S32x8x32x32_S8x32x32x32_1_0_2_3) (broadcastInDim S8x32x32x32 ![0, 1, 2, 3] bcast_S1x32x1x1_S8x32x32x32_0_1_2_3 (broadcastInDim S1x32x1x1 ![1] bcast_S32_S1x32x1x1_1 arg2))) transposes_S8x32x32x32_S8x32x32x32_0_2_3_1) shapeCasts_S8x32x32x32_S8192x32)

set_option maxHeartbeats 2000000 in
theorem seg1_v8 (V : Valuation τ sig (Elt F)) : after seg1 V (Proc.devRef .tc main_v8) = t_v8 (F := F) (V (Proc.devRef .tc main_arg0)) (V (Proc.devRef .tc main_arg1)) (V (Proc.devRef .tc main_arg2)) := by
  simp only [seg1, TRef.binary, TRef.nullary, TRef.ternary, TRef.unary, TRef.toBuf, TRef.ofBuf, cast_eq]
  after_results_simp <;> rfl

/-- Stretch 2 of the line: it leaves main_v22. -/
def seg2 : List (HloOp τ sig (Elt F)) :=
  [binary main_v8 main_v8 main_v9 (mulf : (⟨S8192x32, .f32⟩ : BufTy).Contents (Elt F) → (⟨S8192x32, .f32⟩ : BufTy).Contents (Elt F) → (⟨S8192x32, .f32⟩ : BufTy).Contents (Elt F)),
   nullary main_cst_0 (constant S_ .f32 0x00000000#32),
   binary main_v9 main_cst_0 main_v10 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v10 main_v11 (broadcastInDim S8192x1 ![0] bcast_S8192_S8192x1_0 : (⟨S8192, .f32⟩ : BufTy).Contents (Elt F) → (⟨S8192x1, .f32⟩ : BufTy).Contents (Elt F)),
   binary main_arg3 main_arg3 main_v12 (mulf : (⟨S8192x32, .f32⟩ : BufTy).Contents (Elt F) → (⟨S8192x32, .f32⟩ : BufTy).Contents (Elt F) → (⟨S8192x32, .f32⟩ : BufTy).Contents (Elt F)),
   nullary main_cst_1 (constant S_ .f32 0x00000000#32),
   binary main_v12 main_cst_1 main_v13 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v13 main_v14 (broadcastInDim S1x8192 ![1] bcast_S8192_S1x8192_1 : (⟨S8192, .f32⟩ : BufTy).Contents (Elt F) → (⟨S1x8192, .f32⟩ : BufTy).Contents (Elt F)),
   unary main_arg3 main_v15 ((transpose S32x8192 [1, 0] · transposes_S8192x32_S32x8192_1_0) : (⟨S8192x32, .f32⟩ : BufTy).Contents (Elt F) → (⟨S32x8192, .f32⟩ : BufTy).Contents (Elt F)),
   binary main_v8 main_v15 main_v16 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
   nullary main_cst_2 (constant S_ .f32 0x40000000#32),
   unary main_cst_2 main_v17 (broadcastInDim S8192x8192 ![] bcast_S_S8192x8192 : (⟨S_, .f32⟩ : BufTy).Contents (Elt F) → (⟨S8192x8192, .f32⟩ : BufTy).Contents (Elt F)),
   binary main_v17 main_v16 main_v18 (mulf : (⟨S8192x8192, .f32⟩ : BufTy).Contents (Elt F) → (⟨S8192x8192, .f32⟩ : BufTy).Contents (Elt F) → (⟨S8192x8192, .f32⟩ : BufTy).Contents (Elt F)),
   unary main_v11 main_v19 (broadcastInDim S8192x8192 ![0, 1] bcast_S8192x1_S8192x8192_0_1 : (⟨S8192x1, .f32⟩ : BufTy).Contents (Elt F) → (⟨S8192x8192, .f32⟩ : BufTy).Contents (Elt F)),
   binary main_v19 main_v18 main_v20 (subf : (⟨S8192x8192, .f32⟩ : BufTy).Contents (Elt F) → (⟨S8192x8192, .f32⟩ : BufTy).Contents (Elt F) → (⟨S8192x8192, .f32⟩ : BufTy).Contents (Elt F)),
   unary main_v14 main_v21 (broadcastInDim S8192x8192 ![0, 1] bcast_S1x8192_S8192x8192_0_1 : (⟨S1x8192, .f32⟩ : BufTy).Contents (Elt F) → (⟨S8192x8192, .f32⟩ : BufTy).Contents (Elt F)),
   binary main_v20 main_v21 main_v22 (addf : (⟨S8192x8192, .f32⟩ : BufTy).Contents (Elt F) → (⟨S8192x8192, .f32⟩ : BufTy).Contents (Elt F) → (⟨S8192x8192, .f32⟩ : BufTy).Contents (Elt F))]

/-- Stretch 2 leaves every buffer that it does not write. -/
theorem seg2_keep {r : Ref sig .tc} (hr : r ∉ ([main_v9, main_cst_0, main_v10, main_v11, main_v12, main_cst_1, main_v13, main_v14, main_v15, main_v16, main_cst_2, main_v17, main_v18, main_v19, main_v20, main_v21, main_v22] : List (Ref sig .tc)))
    (V : Valuation τ sig (Elt F)) : after seg2 V (Proc.devRef .tc r) = V (Proc.devRef .tc r) :=
  after_unwritten _ rfl hr V

/-- What stretch 2 leaves at v22, of v8, arg3. -/
def t_v22 (v8 : (⟨S8192x32, .f32⟩ : BufTy).Contents (Elt F)) (arg3 : (⟨S8192x32, .f32⟩ : BufTy).Contents (Elt F)) : (⟨S8192x8192, .f32⟩ : BufTy).Contents (Elt F) :=
  (addf (subf (broadcastInDim S8192x8192 ![0, 1] bcast_S8192x1_S8192x8192_0_1 (broadcastInDim S8192x1 ![0] bcast_S8192_S8192x1_0 (Host.reduceAdd (mulf v8 v8) (constant S_ .f32 0x00000000#32) reducesTo_S8192x32_S8192_d1 h_S_))) (mulf (broadcastInDim S8192x8192 ![] bcast_S_S8192x8192 (constant S_ .f32 0x40000000#32)) (Host.dotGeneral dot_S8192x32_S32x8192_S8192x8192_1_0_0_1_n_n none v8 (transpose S32x8192 [1, 0] arg3 transposes_S8192x32_S32x8192_1_0)))) (broadcastInDim S8192x8192 ![0, 1] bcast_S1x8192_S8192x8192_0_1 (broadcastInDim S1x8192 ![1] bcast_S8192_S1x8192_1 (Host.reduceAdd (mulf arg3 arg3) (constant S_ .f32 0x00000000#32) reducesTo_S8192x32_S8192_d1 h_S_))))

set_option maxHeartbeats 2000000 in
theorem seg2_v22 (V : Valuation τ sig (Elt F)) : after seg2 V (Proc.devRef .tc main_v22) = t_v22 (F := F) (V (Proc.devRef .tc main_v8)) (V (Proc.devRef .tc main_arg3)) := by
  simp only [seg2, TRef.binary, TRef.nullary, TRef.ternary, TRef.unary, TRef.toBuf, TRef.ofBuf, cast_eq]
  after_results_simp <;> rfl

/-- Stretch 3 of the line: it leaves main_v23. -/
def seg3 : List (HloOp τ sig (Elt F)) :=
  [nullary main_call0_v0 (iotaInDim S8192x8192 32 1),
   nullary main_call0_cst (constant S_ .f32 0x7F800000#32),
   nullary main_call0_c (constantI S_ 32 0#32),
   quaternary main_v22 main_call0_v0 main_call0_cst main_call0_c main_call0_v1_0 ((fun x y u v j => (Host.argReduce reducer_argmin_f32_i32 x y u v reducesTo_S8192x8192_S8192_d1 h_S_ j).1) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .f32⟩ : BufTy).Contents (Elt F)),
   quaternary main_v22 main_call0_v0 main_call0_cst main_call0_c main_v23 ((fun x y u v j => (Host.argReduce reducer_argmin_f32_i32 x y u v reducesTo_S8192x8192_S8192_d1 h_S_ j).2) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .i32⟩ : BufTy).Contents (Elt F))]

/-- Stretch 3 leaves every buffer that it does not write. -/
theorem seg3_keep {r : Ref sig .tc} (hr : r ∉ ([main_call0_v0, main_call0_cst, main_call0_c, main_call0_v1_0, main_v23] : List (Ref sig .tc)))
    (V : Valuation τ sig (Elt F)) : after seg3 V (Proc.devRef .tc r) = V (Proc.devRef .tc r) :=
  after_unwritten _ rfl hr V

/-- What stretch 3 leaves at v23, of v22. -/
def t_v23 (v22 : (⟨S8192x8192, .f32⟩ : BufTy).Contents (Elt F)) : (⟨S8192, .i32⟩ : BufTy).Contents (Elt F) :=
  (fun j => (Host.argReduce reducer_argmin_f32_i32 v22 (iotaInDim S8192x8192 32 1) (constant S_ .f32 0x7F800000#32) (constantI S_ 32 0#32) reducesTo_S8192x8192_S8192_d1 h_S_ j).2)

set_option maxHeartbeats 2000000 in
theorem seg3_v23 (V : Valuation τ sig (Elt F)) : after seg3 V (Proc.devRef .tc main_v23) = t_v23 (F := F) (V (Proc.devRef .tc main_v22)) := by
  simp only [seg3, TRef.binary, TRef.nullary, TRef.ternary, TRef.unary, TRef.toBuf, TRef.ofBuf, cast_eq]
  after_results_simp <;> rfl

/-- Stretch 4 of the line: it leaves main_v24. -/
def seg4 : List (HloOp τ sig (Elt F)) :=
  [nullary main_call1_c (constantI S_ 32 0#32),
   unary main_call1_c main_call1_v0 ((broadcastInDim S8192 ![] bcast_S_S8192) : (⟨S_, .i32⟩ : BufTy).Contents (Elt F) → (⟨S8192, .i32⟩ : BufTy).Contents (Elt F)),
   binary main_v23 main_call1_v0 main_call1_v1 ((cmpi .slt) : (⟨S8192, .i32⟩ : BufTy).Contents (Elt F) → (⟨S8192, .i32⟩ : BufTy).Contents (Elt F) → (⟨S8192, .i1⟩ : BufTy).Contents (Elt F)),
   nullary main_call1_c_0 (constantI S_ 32 8192#32),
   unary main_call1_c_0 main_call1_v2 ((broadcastInDim S8192 ![] bcast_S_S8192) : (⟨S_, .i32⟩ : BufTy).Contents (Elt F) → (⟨S8192, .i32⟩ : BufTy).Contents (Elt F)),
   binary main_v23 main_call1_v2 main_call1_v3 (addi : (⟨S8192, .i32⟩ : BufTy).Contents (Elt F) → (⟨S8192, .i32⟩ : BufTy).Contents (Elt F) → (⟨S8192, .i32⟩ : BufTy).Contents (Elt F)),
   ternary main_call1_v1 main_call1_v3 main_v23 main_call1_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   unary main_call1_v4 main_call1_v5 ((broadcastInDim S8192x1 ![0] bcast_S8192_S8192x1_0) : (⟨S8192, .i32⟩ : BufTy).Contents (Elt F) → (⟨S8192x1, .i32⟩ : BufTy).Contents (Elt F)),
   nullary main_call1_c_1 (constantI S1 32 8191#32),
   nullary main_call1_c_2 (constantI S_ 32 0#32),
   unary main_call1_c_2 main_call1_v6 ((broadcastInDim S8192x1 ![] bcast_S_S8192x1) : (⟨S_, .i32⟩ : BufTy).Contents (Elt F) → (⟨S8192x1, .i32⟩ : BufTy).Contents (Elt F)),
   binary main_call1_v5 main_call1_v6 main_call1_v7 ((cmpi .sge) : (⟨S8192x1, .i32⟩ : BufTy).Contents (Elt F) → (⟨S8192x1, .i32⟩ : BufTy).Contents (Elt F) → (⟨S8192x1, .i1⟩ : BufTy).Contents (Elt F)),
   unary main_call1_c_1 main_call1_v8 ((broadcastInDim S1x1 ![1] bcast_S1_S1x1_1) : (⟨S1, .i32⟩ : BufTy).Contents (Elt F) → (⟨S1x1, .i32⟩ : BufTy).Contents (Elt F)),
   unary main_call1_v8 main_call1_v9 ((broadcastInDim S8192x1 ![0, 1] bcast_S1x1_S8192x1_0_1) : (⟨S1x1, .i32⟩ : BufTy).Contents (Elt F) → (⟨S8192x1, .i32⟩ : BufTy).Contents (Elt F)),
   binary main_call1_v5 main_call1_v9 main_call1_v10 ((cmpi .sle) : (⟨S8192x1, .i32⟩ : BufTy).Contents (Elt F) → (⟨S8192x1, .i32⟩ : BufTy).Contents (Elt F) → (⟨S8192x1, .i1⟩ : BufTy).Contents (Elt F)),
   binary main_call1_v7 main_call1_v10 main_call1_v11 (andi : (⟨S8192x1, .i1⟩ : BufTy).Contents (Elt F) → (⟨S8192x1, .i1⟩ : BufTy).Contents (Elt F) → (⟨S8192x1, .i1⟩ : BufTy).Contents (Elt F)),
   nullary main_call1_c_3 (constantI S_ 1 1#1),
   binary main_call1_v11 main_call1_c_3 main_call1_v12 ((fun x v => Host.reduce IntOp.andi x v reducesTo_S8192x1_S8192_d1 h_S_) : (⟨S8192x1, .i1⟩ : BufTy).Contents (Elt F) → (⟨S_, .i1⟩ : BufTy).Contents (Elt F) → (⟨S8192, .i1⟩ : BufTy).Contents (Elt F)),
   binary main_arg3 main_call1_v5 main_call1_v13 ((fun x i => Host.gather gather_S8192x32_S8192x1_S8192x32_1_0_n_n_0_1_132 x i) : (⟨S8192x32, .f32⟩ : BufTy).Contents (Elt F) → (⟨S8192x1, .i32⟩ : BufTy).Contents (Elt F) → (⟨S8192x32, .f32⟩ : BufTy).Contents (Elt F)),
   unary main_call1_v12 main_call1_v14 ((broadcastInDim S8192x32 ![0] bcast_S8192_S8192x32_0) : (⟨S8192, .i1⟩ : BufTy).Contents (Elt F) → (⟨S8192x32, .i1⟩ : BufTy).Contents (Elt F)),
   nullary main_call1_cst (constant S_ .f32 0x7FC00000#32),
   unary main_call1_cst main_call1_v15 ((broadcastInDim S8192x32 ![] bcast_S_S8192x32) : (⟨S_, .f32⟩ : BufTy).Contents (Elt F) → (⟨S8192x32, .f32⟩ : BufTy).Contents (Elt F)),
   ternary main_call1_v14 main_call1_v13 main_call1_v15 main_v24 (select : (⟨S8192x32, .i1⟩ : BufTy).Contents (Elt F) → (⟨S8192x32, .f32⟩ : BufTy).Contents (Elt F) → (⟨S8192x32, .f32⟩ : BufTy).Contents (Elt F) → (⟨S8192x32, .f32⟩ : BufTy).Contents (Elt F))]

/-- Stretch 4 leaves every buffer that it does not write. -/
theorem seg4_keep {r : Ref sig .tc} (hr : r ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v24] : List (Ref sig .tc)))
    (V : Valuation τ sig (Elt F)) : after seg4 V (Proc.devRef .tc r) = V (Proc.devRef .tc r) :=
  after_unwritten _ rfl hr V

/-- What stretch 4 leaves at v24, of arg3, v23. -/
def t_v24 (arg3 : (⟨S8192x32, .f32⟩ : BufTy).Contents (Elt F)) (v23 : (⟨S8192, .i32⟩ : BufTy).Contents (Elt F)) : (⟨S8192x32, .f32⟩ : BufTy).Contents (Elt F) :=
  (select ((broadcastInDim S8192x32 ![0] bcast_S8192_S8192x32_0) (Host.reduce IntOp.andi (andi ((cmpi .sge) ((broadcastInDim S8192x1 ![0] bcast_S8192_S8192x1_0) (select ((cmpi .slt) v23 ((broadcastInDim S8192 ![] bcast_S_S8192) (constantI S_ 32 0#32))) (addi v23 ((broadcastInDim S8192 ![] bcast_S_S8192) (constantI S_ 32 8192#32))) v23)) ((broadcastInDim S8192x1 ![] bcast_S_S8192x1) (constantI S_ 32 0#32))) ((cmpi .sle) ((broadcastInDim S8192x1 ![0] bcast_S8192_S8192x1_0) (select ((cmpi .slt) v23 ((broadcastInDim S8192 ![] bcast_S_S8192) (constantI S_ 32 0#32))) (addi v23 ((broadcastInDim S8192 ![] bcast_S_S8192) (constantI S_ 32 8192#32))) v23)) ((broadcastInDim S8192x1 ![0, 1] bcast_S1x1_S8192x1_0_1) ((broadcastInDim S1x1 ![1] bcast_S1_S1x1_1) (constantI S1 32 8191#32))))) (constantI S_ 1 1#1) reducesTo_S8192x1_S8192_d1 h_S_)) (Host.gather gather_S8192x32_S8192x1_S8192x32_1_0_n_n_0_1_132 arg3 ((broadcastInDim S8192x1 ![0] bcast_S8192_S8192x1_0) (select ((cmpi .slt) v23 ((broadcastInDim S8192 ![] bcast_S_S8192) (constantI S_ 32 0#32))) (addi v23 ((broadcastInDim S8192 ![] bcast_S_S8192) (constantI S_ 32 8192#32))) v23))) ((broadcastInDim S8192x32 ![] bcast_S_S8192x32) (constant S_ .f32 0x7FC00000#32)))

set_option maxHeartbeats 2000000 in
theorem seg4_v24 (V : Valuation τ sig (Elt F)) : after seg4 V (Proc.devRef .tc main_v24) = t_v24 (F := F) (V (Proc.devRef .tc main_arg3)) (V (Proc.devRef .tc main_v23)) := by
  simp only [seg4, TRef.binary, TRef.nullary, TRef.ternary, TRef.unary, TRef.toBuf, TRef.ofBuf, cast_eq]
  after_results_simp <;> rfl

/-- Stretch 5 of the line: it leaves main_v29. -/
def seg5 : List (HloOp τ sig (Elt F)) :=
  [binary main_v24 main_v8 main_v25 (subf : (⟨S8192x32, .f32⟩ : BufTy).Contents (Elt F) → (⟨S8192x32, .f32⟩ : BufTy).Contents (Elt F) → (⟨S8192x32, .f32⟩ : BufTy).Contents (Elt F)),
   binary main_v8 main_v25 main_v26 (addf : (⟨S8192x32, .f32⟩ : BufTy).Contents (Elt F) → (⟨S8192x32, .f32⟩ : BufTy).Contents (Elt F) → (⟨S8192x32, .f32⟩ : BufTy).Contents (Elt F)),
   reshape main_v26 main_v27 (rfl : (.f32 : EltTy) = .f32) shapeCasts_S8192x32_S8x1024x32,
   unary main_v27 main_v28 ((transpose S8x32x1024 [0, 2, 1] · transposes_S8x1024x32_S8x32x1024_0_2_1) : (⟨S8x1024x32, .f32⟩ : BufTy).Contents (Elt F) → (⟨S8x32x1024, .f32⟩ : BufTy).Contents (Elt F)),
   reshape main_v28 main_v29 (rfl : (.f32 : EltTy) = .f32) shapeCasts_S8x32x1024_S8x32x32x32]

/-- Stretch 5 leaves every buffer that it does not write. -/
theorem seg5_keep {r : Ref sig .tc} (hr : r ∉ ([main_v25, main_v26, main_v27, main_v28, main_v29] : List (Ref sig .tc)))
    (V : Valuation τ sig (Elt F)) : after seg5 V (Proc.devRef .tc r) = V (Proc.devRef .tc r) :=
  after_unwritten _ rfl hr V

/-- What stretch 5 leaves at v29, of v8, v24. -/
def t_v29 (v8 : (⟨S8192x32, .f32⟩ : BufTy).Contents (Elt F)) (v24 : (⟨S8192x32, .f32⟩ : BufTy).Contents (Elt F)) : (⟨S8x32x32x32, .f32⟩ : BufTy).Contents (Elt F) :=
  (shapeCast S8x32x32x32 (transpose S8x32x1024 [0, 2, 1] (shapeCast S8x1024x32 (addf v8 (subf v24 v8)) shapeCasts_S8192x32_S8x1024x32) transposes_S8x1024x32_S8x32x1024_0_2_1) shapeCasts_S8x32x1024_S8x32x32x32)

set_option maxHeartbeats 2000000 in
theorem seg5_v29 (V : Valuation τ sig (Elt F)) : after seg5 V (Proc.devRef .tc main_v29) = t_v29 (F := F) (V (Proc.devRef .tc main_v8)) (V (Proc.devRef .tc main_v24)) := by
  simp only [seg5, TRef.binary, TRef.nullary, TRef.ternary, TRef.unary, TRef.toBuf, TRef.ofBuf, cast_eq]
  after_results_simp <;> rfl

/-- Stretch 6 of the line: it leaves main_v31, main_v32. -/
def seg6 : List (HloOp τ sig (Elt F)) :=
  [nullary main_cst_3 (constant S_ .f32 0x3F800000#32),
   unary main_cst_3 main_v30 (broadcastInDim S8x32x32 ![] bcast_S_S8x32x32 : (⟨S_, .f32⟩ : BufTy).Contents (Elt F) → (⟨S8x32x32, .f32⟩ : BufTy).Contents (Elt F)),
   nullary main_call2_call0_cst (constant S_ .f32 0x00000000#32),
   unary main_call2_call0_cst main_call2_call0_v0 ((broadcastInDim S_ ![] bcast_S_S_) : (⟨S_, .f32⟩ : BufTy).Contents (Elt F) → (⟨S_, .f32⟩ : BufTy).Contents (Elt F)),
   binary main_v30 main_call2_call0_v0 main_v31 ((fun x v => Host.reduceWindowAdd ![1, 32, 1] ![1, 1, 1] ![0, 31, 0] ![0, 0, 0] x v reduceWindows_S8x32x32_S8x32x32_w1s1p0_0_w32s1p31_0_w1s1p0_0 h_S_) : (⟨S8x32x32, .f32⟩ : BufTy).Contents (Elt F) → (⟨S_, .f32⟩ : BufTy).Contents (Elt F) → (⟨S8x32x32, .f32⟩ : BufTy).Contents (Elt F)),
   nullary main_call3_call0_cst (constant S_ .f32 0x00000000#32),
   unary main_call3_call0_cst main_call3_call0_v0 ((broadcastInDim S_ ![] bcast_S_S_) : (⟨S_, .f32⟩ : BufTy).Contents (Elt F) → (⟨S_, .f32⟩ : BufTy).Contents (Elt F)),
   binary main_v30 main_call3_call0_v0 main_v32 ((fun x v => Host.reduceWindowAdd ![1, 1, 32] ![1, 1, 1] ![0, 0, 31] ![0, 0, 0] x v reduceWindows_S8x32x32_S8x32x32_w1s1p0_0_w1s1p0_0_w32s1p31_0 h_S_) : (⟨S8x32x32, .f32⟩ : BufTy).Contents (Elt F) → (⟨S_, .f32⟩ : BufTy).Contents (Elt F) → (⟨S8x32x32, .f32⟩ : BufTy).Contents (Elt F))]

/-- Stretch 6 leaves every buffer that it does not write. -/
theorem seg6_keep {r : Ref sig .tc} (hr : r ∉ ([main_cst_3, main_v30, main_call2_call0_cst, main_call2_call0_v0, main_v31, main_call3_call0_cst, main_call3_call0_v0, main_v32] : List (Ref sig .tc)))
    (V : Valuation τ sig (Elt F)) : after seg6 V (Proc.devRef .tc r) = V (Proc.devRef .tc r) :=
  after_unwritten _ rfl hr V

/-- What stretch 6 leaves at v31, of nothing. -/
def t_v31  : (⟨S8x32x32, .f32⟩ : BufTy).Contents (Elt F) :=
  (Host.reduceWindowAdd ![1, 32, 1] ![1, 1, 1] ![0, 31, 0] ![0, 0, 0] (broadcastInDim S8x32x32 ![] bcast_S_S8x32x32 (constant S_ .f32 0x3F800000#32)) ((broadcastInDim S_ ![] bcast_S_S_) (constant S_ .f32 0x00000000#32)) reduceWindows_S8x32x32_S8x32x32_w1s1p0_0_w32s1p31_0_w1s1p0_0 h_S_)

set_option maxHeartbeats 2000000 in
theorem seg6_v31 (V : Valuation τ sig (Elt F)) : after seg6 V (Proc.devRef .tc main_v31) = t_v31 (F := F)  := by
  simp only [seg6, TRef.binary, TRef.nullary, TRef.ternary, TRef.unary, TRef.toBuf, TRef.ofBuf, cast_eq]
  after_results_simp <;> rfl

/-- What stretch 6 leaves at v32, of nothing. -/
def t_v32  : (⟨S8x32x32, .f32⟩ : BufTy).Contents (Elt F) :=
  (Host.reduceWindowAdd ![1, 1, 32] ![1, 1, 1] ![0, 0, 31] ![0, 0, 0] (broadcastInDim S8x32x32 ![] bcast_S_S8x32x32 (constant S_ .f32 0x3F800000#32)) ((broadcastInDim S_ ![] bcast_S_S_) (constant S_ .f32 0x00000000#32)) reduceWindows_S8x32x32_S8x32x32_w1s1p0_0_w1s1p0_0_w32s1p31_0 h_S_)

set_option maxHeartbeats 2000000 in
theorem seg6_v32 (V : Valuation τ sig (Elt F)) : after seg6 V (Proc.devRef .tc main_v32) = t_v32 (F := F)  := by
  simp only [seg6, TRef.binary, TRef.nullary, TRef.ternary, TRef.unary, TRef.toBuf, TRef.ofBuf, cast_eq]
  after_results_simp <;> rfl

/-- Stretch 7 of the line: it leaves main_v41, main_v50. -/
def seg7 : List (HloOp τ sig (Elt F)) :=
  [unary main_v31 main_v33 ((extractStridedSlice S8x1x32 ![0, 31, 0] · slices_S8x32x32_S8x1x32_0_31_0) : (⟨S8x32x32, .f32⟩ : BufTy).Contents (Elt F) → (⟨S8x1x32, .f32⟩ : BufTy).Contents (Elt F)),
   nullary main_cst_4 (constant S_ .f32 0x358637BD#32),
   unary main_cst_4 main_v34 (broadcastInDim S8x1x32 ![] bcast_S_S8x1x32 : (⟨S_, .f32⟩ : BufTy).Contents (Elt F) → (⟨S8x1x32, .f32⟩ : BufTy).Contents (Elt F)),
   binary main_v33 main_v34 main_v35 (addf : (⟨S8x1x32, .f32⟩ : BufTy).Contents (Elt F) → (⟨S8x1x32, .f32⟩ : BufTy).Contents (Elt F) → (⟨S8x1x32, .f32⟩ : BufTy).Contents (Elt F)),
   unary main_v35 main_v36 (broadcastInDim S8x32x32 ![0, 1, 2] bcast_S8x1x32_S8x32x32_0_1_2 : (⟨S8x1x32, .f32⟩ : BufTy).Contents (Elt F) → (⟨S8x32x32, .f32⟩ : BufTy).Contents (Elt F)),
   binary main_v31 main_v36 main_v37 (Host.divf : (⟨S8x32x32, .f32⟩ : BufTy).Contents (Elt F) → (⟨S8x32x32, .f32⟩ : BufTy).Contents (Elt F) → (⟨S8x32x32, .f32⟩ : BufTy).Contents (Elt F)),
   nullary main_cst_5 (constant S_ .f32 0x40000000#32),
   unary main_cst_5 main_v38 (broadcastInDim S8x32x32 ![] bcast_S_S8x32x32 : (⟨S_, .f32⟩ : BufTy).Contents (Elt F) → (⟨S8x32x32, .f32⟩ : BufTy).Contents (Elt F)),
   binary main_v37 main_v38 main_v39 (mulf : (⟨S8x32x32, .f32⟩ : BufTy).Contents (Elt F) → (⟨S8x32x32, .f32⟩ : BufTy).Contents (Elt F) → (⟨S8x32x32, .f32⟩ : BufTy).Contents (Elt F)),
   nullary main_cst_6 (constant S_ .f32 0x40490FDB#32),
   unary main_cst_6 main_v40 (broadcastInDim S8x32x32 ![] bcast_S_S8x32x32 : (⟨S_, .f32⟩ : BufTy).Contents (Elt F) → (⟨S8x32x32, .f32⟩ : BufTy).Contents (Elt F)),
   binary main_v39 main_v40 main_v41 (mulf : (⟨S8x32x32, .f32⟩ : BufTy).Contents (Elt F) → (⟨S8x32x32, .f32⟩ : BufTy).Contents (Elt F) → (⟨S8x32x32, .f32⟩ : BufTy).Contents (Elt F)),
   unary main_v32 main_v42 ((extractStridedSlice S8x32x1 ![0, 0, 31] · slices_S8x32x32_S8x32x1_0_0_31) : (⟨S8x32x32, .f32⟩ : BufTy).Contents (Elt F) → (⟨S8x32x1, .f32⟩ : BufTy).Contents (Elt F)),
   nullary main_cst_7 (constant S_ .f32 0x358637BD#32),
   unary main_cst_7 main_v43 (broadcastInDim S8x32x1 ![] bcast_S_S8x32x1 : (⟨S_, .f32⟩ : BufTy).Contents (Elt F) → (⟨S8x32x1, .f32⟩ : BufTy).Contents (Elt F)),
   binary main_v42 main_v43 main_v44 (addf : (⟨S8x32x1, .f32⟩ : BufTy).Contents (Elt F) → (⟨S8x32x1, .f32⟩ : BufTy).Contents (Elt F) → (⟨S8x32x1, .f32⟩ : BufTy).Contents (Elt F)),
   unary main_v44 main_v45 (broadcastInDim S8x32x32 ![0, 1, 2] bcast_S8x32x1_S8x32x32_0_1_2 : (⟨S8x32x1, .f32⟩ : BufTy).Contents (Elt F) → (⟨S8x32x32, .f32⟩ : BufTy).Contents (Elt F)),
   binary main_v32 main_v45 main_v46 (Host.divf : (⟨S8x32x32, .f32⟩ : BufTy).Contents (Elt F) → (⟨S8x32x32, .f32⟩ : BufTy).Contents (Elt F) → (⟨S8x32x32, .f32⟩ : BufTy).Contents (Elt F)),
   nullary main_cst_8 (constant S_ .f32 0x40000000#32),
   unary main_cst_8 main_v47 (broadcastInDim S8x32x32 ![] bcast_S_S8x32x32 : (⟨S_, .f32⟩ : BufTy).Contents (Elt F) → (⟨S8x32x32, .f32⟩ : BufTy).Contents (Elt F)),
   binary main_v46 main_v47 main_v48 (mulf : (⟨S8x32x32, .f32⟩ : BufTy).Contents (Elt F) → (⟨S8x32x32, .f32⟩ : BufTy).Contents (Elt F) → (⟨S8x32x32, .f32⟩ : BufTy).Contents (Elt F)),
   nullary main_cst_9 (constant S_ .f32 0x40490FDB#32),
   unary main_cst_9 main_v49 (broadcastInDim S8x32x32 ![] bcast_S_S8x32x32 : (⟨S_, .f32⟩ : BufTy).Contents (Elt F) → (⟨S8x32x32, .f32⟩ : BufTy).Contents (Elt F)),
   binary main_v48 main_v49 main_v50 (mulf : (⟨S8x32x32, .f32⟩ : BufTy).Contents (Elt F) → (⟨S8x32x32, .f32⟩ : BufTy).Contents (Elt F) → (⟨S8x32x32, .f32⟩ : BufTy).Contents (Elt F))]

/-- Stretch 7 leaves every buffer that it does not write. -/
theorem seg7_keep {r : Ref sig .tc} (hr : r ∉ ([main_v33, main_cst_4, main_v34, main_v35, main_v36, main_v37, main_cst_5, main_v38, main_v39, main_cst_6, main_v40, main_v41, main_v42, main_cst_7, main_v43, main_v44, main_v45, main_v46, main_cst_8, main_v47, main_v48, main_cst_9, main_v49, main_v50] : List (Ref sig .tc)))
    (V : Valuation τ sig (Elt F)) : after seg7 V (Proc.devRef .tc r) = V (Proc.devRef .tc r) :=
  after_unwritten _ rfl hr V

/-- What stretch 7 leaves at v41, of v31. -/
def t_v41 (v31 : (⟨S8x32x32, .f32⟩ : BufTy).Contents (Elt F)) : (⟨S8x32x32, .f32⟩ : BufTy).Contents (Elt F) :=
  (mulf (mulf (Host.divf v31 (broadcastInDim S8x32x32 ![0, 1, 2] bcast_S8x1x32_S8x32x32_0_1_2 (addf (extractStridedSlice S8x1x32 ![0, 31, 0] v31 slices_S8x32x32_S8x1x32_0_31_0) (broadcastInDim S8x1x32 ![] bcast_S_S8x1x32 (constant S_ .f32 0x358637BD#32))))) (broadcastInDim S8x32x32 ![] bcast_S_S8x32x32 (constant S_ .f32 0x40000000#32))) (broadcastInDim S8x32x32 ![] bcast_S_S8x32x32 (constant S_ .f32 0x40490FDB#32)))

set_option maxHeartbeats 2000000 in
theorem seg7_v41 (V : Valuation τ sig (Elt F)) : after seg7 V (Proc.devRef .tc main_v41) = t_v41 (F := F) (V (Proc.devRef .tc main_v31)) := by
  simp only [seg7, TRef.binary, TRef.nullary, TRef.ternary, TRef.unary, TRef.toBuf, TRef.ofBuf, cast_eq]
  after_results_simp <;> rfl

/-- What stretch 7 leaves at v50, of v32. -/
def t_v50 (v32 : (⟨S8x32x32, .f32⟩ : BufTy).Contents (Elt F)) : (⟨S8x32x32, .f32⟩ : BufTy).Contents (Elt F) :=
  (mulf (mulf (Host.divf v32 (broadcastInDim S8x32x32 ![0, 1, 2] bcast_S8x32x1_S8x32x32_0_1_2 (addf (extractStridedSlice S8x32x1 ![0, 0, 31] v32 slices_S8x32x32_S8x32x1_0_0_31) (broadcastInDim S8x32x1 ![] bcast_S_S8x32x1 (constant S_ .f32 0x358637BD#32))))) (broadcastInDim S8x32x32 ![] bcast_S_S8x32x32 (constant S_ .f32 0x40000000#32))) (broadcastInDim S8x32x32 ![] bcast_S_S8x32x32 (constant S_ .f32 0x40490FDB#32)))

set_option maxHeartbeats 2000000 in
theorem seg7_v50 (V : Valuation τ sig (Elt F)) : after seg7 V (Proc.devRef .tc main_v50) = t_v50 (F := F) (V (Proc.devRef .tc main_v32)) := by
  simp only [seg7, TRef.binary, TRef.nullary, TRef.ternary, TRef.unary, TRef.toBuf, TRef.ofBuf, cast_eq]
  after_results_simp <;> rfl

/-- Stretch 8 of the line: it leaves main_v60. -/
def seg8 : List (HloOp τ sig (Elt F)) :=
  [nullary main_v51 (sitofp .f32 (iotaInDim S16 32 0)),
   nullary main_cst_10 (constant S_ .f32 0x40000000#32),
   unary main_cst_10 main_v52 (broadcastInDim S16 ![] bcast_S_S16 : (⟨S_, .f32⟩ : BufTy).Contents (Elt F) → (⟨S16, .f32⟩ : BufTy).Contents (Elt F)),
   binary main_v51 main_v52 main_v53 (Host.divf : (⟨S16, .f32⟩ : BufTy).Contents (Elt F) → (⟨S16, .f32⟩ : BufTy).Contents (Elt F) → (⟨S16, .f32⟩ : BufTy).Contents (Elt F)),
   unary main_v53 main_v54 (Host.floor : (⟨S16, .f32⟩ : BufTy).Contents (Elt F) → (⟨S16, .f32⟩ : BufTy).Contents (Elt F)),
   nullary main_cst_11 (constant S_ .f32 0x40000000#32),
   unary main_cst_11 main_v55 (broadcastInDim S16 ![] bcast_S_S16 : (⟨S_, .f32⟩ : BufTy).Contents (Elt F) → (⟨S16, .f32⟩ : BufTy).Contents (Elt F)),
   binary main_v55 main_v54 main_v56 (mulf : (⟨S16, .f32⟩ : BufTy).Contents (Elt F) → (⟨S16, .f32⟩ : BufTy).Contents (Elt F) → (⟨S16, .f32⟩ : BufTy).Contents (Elt F)),
   nullary main_cst_12 (constant S_ .f32 0x41800000#32),
   unary main_cst_12 main_v57 (broadcastInDim S16 ![] bcast_S_S16 : (⟨S_, .f32⟩ : BufTy).Contents (Elt F) → (⟨S16, .f32⟩ : BufTy).Contents (Elt F)),
   binary main_v56 main_v57 main_v58 (Host.divf : (⟨S16, .f32⟩ : BufTy).Contents (Elt F) → (⟨S16, .f32⟩ : BufTy).Contents (Elt F) → (⟨S16, .f32⟩ : BufTy).Contents (Elt F)),
   nullary main_cst_13 (constant S_ .f32 0x461C4000#32),
   unary main_cst_13 main_v59 (broadcastInDim S16 ![] bcast_S_S16 : (⟨S_, .f32⟩ : BufTy).Contents (Elt F) → (⟨S16, .f32⟩ : BufTy).Contents (Elt F)),
   binary main_v59 main_v58 main_v60 (Host.powf : (⟨S16, .f32⟩ : BufTy).Contents (Elt F) → (⟨S16, .f32⟩ : BufTy).Contents (Elt F) → (⟨S16, .f32⟩ : BufTy).Contents (Elt F))]

/-- Stretch 8 leaves every buffer that it does not write. -/
theorem seg8_keep {r : Ref sig .tc} (hr : r ∉ ([main_v51, main_cst_10, main_v52, main_v53, main_v54, main_cst_11, main_v55, main_v56, main_cst_12, main_v57, main_v58, main_cst_13, main_v59, main_v60] : List (Ref sig .tc)))
    (V : Valuation τ sig (Elt F)) : after seg8 V (Proc.devRef .tc r) = V (Proc.devRef .tc r) :=
  after_unwritten _ rfl hr V

/-- What stretch 8 leaves at v60, of nothing. -/
def t_v60  : (⟨S16, .f32⟩ : BufTy).Contents (Elt F) :=
  (Host.powf (broadcastInDim S16 ![] bcast_S_S16 (constant S_ .f32 0x461C4000#32)) (Host.divf (mulf (broadcastInDim S16 ![] bcast_S_S16 (constant S_ .f32 0x40000000#32)) (Host.floor (Host.divf (sitofp .f32 (iotaInDim S16 32 0)) (broadcastInDim S16 ![] bcast_S_S16 (constant S_ .f32 0x40000000#32))))) (broadcastInDim S16 ![] bcast_S_S16 (constant S_ .f32 0x41800000#32))))

set_option maxHeartbeats 2000000 in
theorem seg8_v60 (V : Valuation τ sig (Elt F)) : after seg8 V (Proc.devRef .tc main_v60) = t_v60 (F := F)  := by
  simp only [seg8, TRef.binary, TRef.nullary, TRef.ternary, TRef.unary, TRef.toBuf, TRef.ofBuf, cast_eq]
  after_results_simp <;> rfl

/-- Stretch 9 of the line: it leaves main_v65, main_v70. -/
def seg9 : List (HloOp τ sig (Elt F)) :=
  [unary main_v50 main_v61 (broadcastInDim S8x32x32x1 ![0, 1, 2] bcast_S8x32x32_S8x32x32x1_0_1_2 : (⟨S8x32x32, .f32⟩ : BufTy).Contents (Elt F) → (⟨S8x32x32x1, .f32⟩ : BufTy).Contents (Elt F)),
   unary main_v60 main_v62 (broadcastInDim S1x1x1x16 ![3] bcast_S16_S1x1x1x16_3 : (⟨S16, .f32⟩ : BufTy).Contents (Elt F) → (⟨S1x1x1x16, .f32⟩ : BufTy).Contents (Elt F)),
   unary main_v61 main_v63 (broadcastInDim S8x32x32x16 ![0, 1, 2, 3] bcast_S8x32x32x1_S8x32x32x16_0_1_2_3 : (⟨S8x32x32x1, .f32⟩ : BufTy).Contents (Elt F) → (⟨S8x32x32x16, .f32⟩ : BufTy).Contents (Elt F)),
   unary main_v62 main_v64 (broadcastInDim S8x32x32x16 ![0, 1, 2, 3] bcast_S1x1x1x16_S8x32x32x16_0_1_2_3 : (⟨S1x1x1x16, .f32⟩ : BufTy).Contents (Elt F) → (⟨S8x32x32x16, .f32⟩ : BufTy).Contents (Elt F)),
   binary main_v63 main_v64 main_v65 (Host.divf : (⟨S8x32x32x16, .f32⟩ : BufTy).Contents (Elt F) → (⟨S8x32x32x16, .f32⟩ : BufTy).Contents (Elt F) → (⟨S8x32x32x16, .f32⟩ : BufTy).Contents (Elt F)),
   unary main_v41 main_v66 (broadcastInDim S8x32x32x1 ![0, 1, 2] bcast_S8x32x32_S8x32x32x1_0_1_2 : (⟨S8x32x32, .f32⟩ : BufTy).Contents (Elt F) → (⟨S8x32x32x1, .f32⟩ : BufTy).Contents (Elt F)),
   unary main_v60 main_v67 (broadcastInDim S1x1x1x16 ![3] bcast_S16_S1x1x1x16_3 : (⟨S16, .f32⟩ : BufTy).Contents (Elt F) → (⟨S1x1x1x16, .f32⟩ : BufTy).Contents (Elt F)),
   unary main_v66 main_v68 (broadcastInDim S8x32x32x16 ![0, 1, 2, 3] bcast_S8x32x32x1_S8x32x32x16_0_1_2_3 : (⟨S8x32x32x1, .f32⟩ : BufTy).Contents (Elt F) → (⟨S8x32x32x16, .f32⟩ : BufTy).Contents (Elt F)),
   unary main_v67 main_v69 (broadcastInDim S8x32x32x16 ![0, 1, 2, 3] bcast_S1x1x1x16_S8x32x32x16_0_1_2_3 : (⟨S1x1x1x16, .f32⟩ : BufTy).Contents (Elt F) → (⟨S8x32x32x16, .f32⟩ : BufTy).Contents (Elt F)),
   binary main_v68 main_v69 main_v70 (Host.divf : (⟨S8x32x32x16, .f32⟩ : BufTy).Contents (Elt F) → (⟨S8x32x32x16, .f32⟩ : BufTy).Contents (Elt F) → (⟨S8x32x32x16, .f32⟩ : BufTy).Contents (Elt F))]

/-- Stretch 9 leaves every buffer that it does not write. -/
theorem seg9_keep {r : Ref sig .tc} (hr : r ∉ ([main_v61, main_v62, main_v63, main_v64, main_v65, main_v66, main_v67, main_v68, main_v69, main_v70] : List (Ref sig .tc)))
    (V : Valuation τ sig (Elt F)) : after seg9 V (Proc.devRef .tc r) = V (Proc.devRef .tc r) :=
  after_unwritten _ rfl hr V

/-- What stretch 9 leaves at v65, of v50, v60. -/
def t_v65 (v50 : (⟨S8x32x32, .f32⟩ : BufTy).Contents (Elt F)) (v60 : (⟨S16, .f32⟩ : BufTy).Contents (Elt F)) : (⟨S8x32x32x16, .f32⟩ : BufTy).Contents (Elt F) :=
  (Host.divf (broadcastInDim S8x32x32x16 ![0, 1, 2, 3] bcast_S8x32x32x1_S8x32x32x16_0_1_2_3 (broadcastInDim S8x32x32x1 ![0, 1, 2] bcast_S8x32x32_S8x32x32x1_0_1_2 v50)) (broadcastInDim S8x32x32x16 ![0, 1, 2, 3] bcast_S1x1x1x16_S8x32x32x16_0_1_2_3 (broadcastInDim S1x1x1x16 ![3] bcast_S16_S1x1x1x16_3 v60)))

set_option maxHeartbeats 2000000 in
theorem seg9_v65 (V : Valuation τ sig (Elt F)) : after seg9 V (Proc.devRef .tc main_v65) = t_v65 (F := F) (V (Proc.devRef .tc main_v50)) (V (Proc.devRef .tc main_v60)) := by
  simp only [seg9, TRef.binary, TRef.nullary, TRef.ternary, TRef.unary, TRef.toBuf, TRef.ofBuf, cast_eq]
  after_results_simp <;> rfl

/-- What stretch 9 leaves at v70, of v41, v60. -/
def t_v70 (v41 : (⟨S8x32x32, .f32⟩ : BufTy).Contents (Elt F)) (v60 : (⟨S16, .f32⟩ : BufTy).Contents (Elt F)) : (⟨S8x32x32x16, .f32⟩ : BufTy).Contents (Elt F) :=
  (Host.divf (broadcastInDim S8x32x32x16 ![0, 1, 2, 3] bcast_S8x32x32x1_S8x32x32x16_0_1_2_3 (broadcastInDim S8x32x32x1 ![0, 1, 2] bcast_S8x32x32_S8x32x32x1_0_1_2 v41)) (broadcastInDim S8x32x32x16 ![0, 1, 2, 3] bcast_S1x1x1x16_S8x32x32x16_0_1_2_3 (broadcastInDim S1x1x1x16 ![3] bcast_S16_S1x1x1x16_3 v60)))

set_option maxHeartbeats 2000000 in
theorem seg9_v70 (V : Valuation τ sig (Elt F)) : after seg9 V (Proc.devRef .tc main_v70) = t_v70 (F := F) (V (Proc.devRef .tc main_v41)) (V (Proc.devRef .tc main_v60)) := by
  simp only [seg9, TRef.binary, TRef.nullary, TRef.ternary, TRef.unary, TRef.toBuf, TRef.ofBuf, cast_eq]
  after_results_simp <;> rfl

/-- Stretch 10 of the line: it leaves main_v88. -/
def seg10 : List (HloOp τ sig (Elt F)) :=
  [unary main_v65 main_v71 ((Host.slice S8x32x32x8 ![0, 0, 0, 0] ![1, 1, 1, 2] · slicesBy_S8x32x32x16_S8x32x32x8_0s1_0s1_0s1_0s2) : (⟨S8x32x32x16, .f32⟩ : BufTy).Contents (Elt F) → (⟨S8x32x32x8, .f32⟩ : BufTy).Contents (Elt F)),
   unary main_v71 main_v72 (Host.sin : (⟨S8x32x32x8, .f32⟩ : BufTy).Contents (Elt F) → (⟨S8x32x32x8, .f32⟩ : BufTy).Contents (Elt F)),
   unary main_v65 main_v73 ((Host.slice S8x32x32x8 ![0, 0, 0, 1] ![1, 1, 1, 2] · slicesBy_S8x32x32x16_S8x32x32x8_0s1_0s1_0s1_1s2) : (⟨S8x32x32x16, .f32⟩ : BufTy).Contents (Elt F) → (⟨S8x32x32x8, .f32⟩ : BufTy).Contents (Elt F)),
   unary main_v73 main_v74 (Host.cos : (⟨S8x32x32x8, .f32⟩ : BufTy).Contents (Elt F) → (⟨S8x32x32x8, .f32⟩ : BufTy).Contents (Elt F)),
   unary main_v72 main_v75 (broadcastInDim S8x32x32x8x1 ![0, 1, 2, 3] bcast_S8x32x32x8_S8x32x32x8x1_0_1_2_3 : (⟨S8x32x32x8, .f32⟩ : BufTy).Contents (Elt F) → (⟨S8x32x32x8x1, .f32⟩ : BufTy).Contents (Elt F)),
   unary main_v74 main_v76 (broadcastInDim S8x32x32x8x1 ![0, 1, 2, 3] bcast_S8x32x32x8_S8x32x32x8x1_0_1_2_3 : (⟨S8x32x32x8, .f32⟩ : BufTy).Contents (Elt F) → (⟨S8x32x32x8x1, .f32⟩ : BufTy).Contents (Elt F)),
   binary main_v75 main_v76 main_v77 catS8x32x32x8x2,
   reshape main_v77 main_v78 (rfl : (.f32 : EltTy) = .f32) shapeCasts_S8x32x32x8x2_S8x32x32x16,
   unary main_v70 main_v79 ((Host.slice S8x32x32x8 ![0, 0, 0, 0] ![1, 1, 1, 2] · slicesBy_S8x32x32x16_S8x32x32x8_0s1_0s1_0s1_0s2) : (⟨S8x32x32x16, .f32⟩ : BufTy).Contents (Elt F) → (⟨S8x32x32x8, .f32⟩ : BufTy).Contents (Elt F)),
   unary main_v79 main_v80 (Host.sin : (⟨S8x32x32x8, .f32⟩ : BufTy).Contents (Elt F) → (⟨S8x32x32x8, .f32⟩ : BufTy).Contents (Elt F)),
   unary main_v70 main_v81 ((Host.slice S8x32x32x8 ![0, 0, 0, 1] ![1, 1, 1, 2] · slicesBy_S8x32x32x16_S8x32x32x8_0s1_0s1_0s1_1s2) : (⟨S8x32x32x16, .f32⟩ : BufTy).Contents (Elt F) → (⟨S8x32x32x8, .f32⟩ : BufTy).Contents (Elt F)),
   unary main_v81 main_v82 (Host.cos : (⟨S8x32x32x8, .f32⟩ : BufTy).Contents (Elt F) → (⟨S8x32x32x8, .f32⟩ : BufTy).Contents (Elt F)),
   unary main_v80 main_v83 (broadcastInDim S8x32x32x8x1 ![0, 1, 2, 3] bcast_S8x32x32x8_S8x32x32x8x1_0_1_2_3 : (⟨S8x32x32x8, .f32⟩ : BufTy).Contents (Elt F) → (⟨S8x32x32x8x1, .f32⟩ : BufTy).Contents (Elt F)),
   unary main_v82 main_v84 (broadcastInDim S8x32x32x8x1 ![0, 1, 2, 3] bcast_S8x32x32x8_S8x32x32x8x1_0_1_2_3 : (⟨S8x32x32x8, .f32⟩ : BufTy).Contents (Elt F) → (⟨S8x32x32x8x1, .f32⟩ : BufTy).Contents (Elt F)),
   binary main_v83 main_v84 main_v85 catS8x32x32x8x2,
   reshape main_v85 main_v86 (rfl : (.f32 : EltTy) = .f32) shapeCasts_S8x32x32x8x2_S8x32x32x16,
   binary main_v86 main_v78 main_v87 catS8x32x32x32,
   unary main_v87 main_v88 ((transpose S8x32x32x32 [0, 3, 1, 2] · transposes_S8x32x32x32_S8x32x32x32_0_3_1_2) : (⟨S8x32x32x32, .f32⟩ : BufTy).Contents (Elt F) → (⟨S8x32x32x32, .f32⟩ : BufTy).Contents (Elt F))]

/-- Stretch 10 leaves every buffer that it does not write. -/
theorem seg10_keep {r : Ref sig .tc} (hr : r ∉ ([main_v71, main_v72, main_v73, main_v74, main_v75, main_v76, main_v77, main_v78, main_v79, main_v80, main_v81, main_v82, main_v83, main_v84, main_v85, main_v86, main_v87, main_v88] : List (Ref sig .tc)))
    (V : Valuation τ sig (Elt F)) : after seg10 V (Proc.devRef .tc r) = V (Proc.devRef .tc r) :=
  after_unwritten _ rfl hr V

/-- What stretch 10 leaves at v88, of v65, v70. -/
def t_v88 (v65 : (⟨S8x32x32x16, .f32⟩ : BufTy).Contents (Elt F)) (v70 : (⟨S8x32x32x16, .f32⟩ : BufTy).Contents (Elt F)) : (⟨S8x32x32x32, .f32⟩ : BufTy).Contents (Elt F) :=
  (transpose S8x32x32x32 [0, 3, 1, 2] (catS8x32x32x32 (shapeCast S8x32x32x16 (catS8x32x32x8x2 (broadcastInDim S8x32x32x8x1 ![0, 1, 2, 3] bcast_S8x32x32x8_S8x32x32x8x1_0_1_2_3 (Host.sin (Host.slice S8x32x32x8 ![0, 0, 0, 0] ![1, 1, 1, 2] v70 slicesBy_S8x32x32x16_S8x32x32x8_0s1_0s1_0s1_0s2))) (broadcastInDim S8x32x32x8x1 ![0, 1, 2, 3] bcast_S8x32x32x8_S8x32x32x8x1_0_1_2_3 (Host.cos (Host.slice S8x32x32x8 ![0, 0, 0, 1] ![1, 1, 1, 2] v70 slicesBy_S8x32x32x16_S8x32x32x8_0s1_0s1_0s1_1s2)))) shapeCasts_S8x32x32x8x2_S8x32x32x16) (shapeCast S8x32x32x16 (catS8x32x32x8x2 (broadcastInDim S8x32x32x8x1 ![0, 1, 2, 3] bcast_S8x32x32x8_S8x32x32x8x1_0_1_2_3 (Host.sin (Host.slice S8x32x32x8 ![0, 0, 0, 0] ![1, 1, 1, 2] v65 slicesBy_S8x32x32x16_S8x32x32x8_0s1_0s1_0s1_0s2))) (broadcastInDim S8x32x32x8x1 ![0, 1, 2, 3] bcast_S8x32x32x8_S8x32x32x8x1_0_1_2_3 (Host.cos (Host.slice S8x32x32x8 ![0, 0, 0, 1] ![1, 1, 1, 2] v65 slicesBy_S8x32x32x16_S8x32x32x8_0s1_0s1_0s1_1s2)))) shapeCasts_S8x32x32x8x2_S8x32x32x16)) transposes_S8x32x32x32_S8x32x32x32_0_3_1_2)

set_option maxHeartbeats 2000000 in
theorem seg10_v88 (V : Valuation τ sig (Elt F)) : after seg10 V (Proc.devRef .tc main_v88) = t_v88 (F := F) (V (Proc.devRef .tc main_v65)) (V (Proc.devRef .tc main_v70)) := by
  simp only [seg10, TRef.binary, TRef.nullary, TRef.ternary, TRef.unary, TRef.toBuf, TRef.ofBuf, cast_eq]
  after_results_simp <;> rfl

/-- Stretch 11 of the line: it leaves main_v91. -/
def seg11 : List (HloOp τ sig (Elt F)) :=
  [binary main_v29 main_v88 main_v89 (addf : (⟨S8x32x32x32, .f32⟩ : BufTy).Contents (Elt F) → (⟨S8x32x32x32, .f32⟩ : BufTy).Contents (Elt F) → (⟨S8x32x32x32, .f32⟩ : BufTy).Contents (Elt F)),
   reshape main_v89 main_v90 (rfl : (.f32 : EltTy) = .f32) shapeCasts_S8x32x32x32_S8x32x1024,
   unary main_v90 main_v91 ((transpose S8x1024x32 [0, 2, 1] · transposes_S8x32x1024_S8x1024x32_0_2_1) : (⟨S8x32x1024, .f32⟩ : BufTy).Contents (Elt F) → (⟨S8x1024x32, .f32⟩ : BufTy).Contents (Elt F))]

/-- Stretch 11 leaves every buffer that it does not write. -/
theorem seg11_keep {r : Ref sig .tc} (hr : r ∉ ([main_v89, main_v90, main_v91] : List (Ref sig .tc)))
    (V : Valuation τ sig (Elt F)) : after seg11 V (Proc.devRef .tc r) = V (Proc.devRef .tc r) :=
  after_unwritten _ rfl hr V

/-- What stretch 11 leaves at v91, of v29, v88. -/
def t_v91 (v29 : (⟨S8x32x32x32, .f32⟩ : BufTy).Contents (Elt F)) (v88 : (⟨S8x32x32x32, .f32⟩ : BufTy).Contents (Elt F)) : (⟨S8x1024x32, .f32⟩ : BufTy).Contents (Elt F) :=
  (transpose S8x1024x32 [0, 2, 1] (shapeCast S8x32x1024 (addf v29 v88) shapeCasts_S8x32x32x32_S8x32x1024) transposes_S8x32x1024_S8x1024x32_0_2_1)

set_option maxHeartbeats 2000000 in
theorem seg11_v91 (V : Valuation τ sig (Elt F)) : after seg11 V (Proc.devRef .tc main_v91) = t_v91 (F := F) (V (Proc.devRef .tc main_v29)) (V (Proc.devRef .tc main_v88)) := by
  simp only [seg11, TRef.binary, TRef.nullary, TRef.ternary, TRef.unary, TRef.toBuf, TRef.ofBuf, cast_eq]
  after_results_simp <;> rfl

/-- Stretch 12 of the line: it leaves main_v95. -/
def seg12 : List (HloOp τ sig (Elt F)) :=
  [nullary main_cst_14 (constant S_ .f32 0x00000000#32),
   binary main_v91 main_cst_14 main_v92 ((fun x v => Host.reduceAdd x v reducesTo_S8x1024x32_S8x1024_d2 h_S_) : (⟨S8x1024x32, .f32⟩ : BufTy).Contents (Elt F) → (⟨S_, .f32⟩ : BufTy).Contents (Elt F) → (⟨S8x1024, .f32⟩ : BufTy).Contents (Elt F)),
   unary main_v92 main_v93 (broadcastInDim S8x1024x1 ![0, 1] bcast_S8x1024_S8x1024x1_0_1 : (⟨S8x1024, .f32⟩ : BufTy).Contents (Elt F) → (⟨S8x1024x1, .f32⟩ : BufTy).Contents (Elt F)),
   nullary main_cst_15 (constant S_ .f32 0x42000000#32),
   unary main_cst_15 main_v94 (broadcastInDim S8x1024x1 ![] bcast_S_S8x1024x1 : (⟨S_, .f32⟩ : BufTy).Contents (Elt F) → (⟨S8x1024x1, .f32⟩ : BufTy).Contents (Elt F)),
   binary main_v93 main_v94 main_v95 (Host.divf : (⟨S8x1024x1, .f32⟩ : BufTy).Contents (Elt F) → (⟨S8x1024x1, .f32⟩ : BufTy).Contents (Elt F) → (⟨S8x1024x1, .f32⟩ : BufTy).Contents (Elt F))]

/-- Stretch 12 leaves every buffer that it does not write. -/
theorem seg12_keep {r : Ref sig .tc} (hr : r ∉ ([main_cst_14, main_v92, main_v93, main_cst_15, main_v94, main_v95] : List (Ref sig .tc)))
    (V : Valuation τ sig (Elt F)) : after seg12 V (Proc.devRef .tc r) = V (Proc.devRef .tc r) :=
  after_unwritten _ rfl hr V

/-- What stretch 12 leaves at v95, of v91. -/
def t_v95 (v91 : (⟨S8x1024x32, .f32⟩ : BufTy).Contents (Elt F)) : (⟨S8x1024x1, .f32⟩ : BufTy).Contents (Elt F) :=
  (Host.divf (broadcastInDim S8x1024x1 ![0, 1] bcast_S8x1024_S8x1024x1_0_1 (Host.reduceAdd v91 (constant S_ .f32 0x00000000#32) reducesTo_S8x1024x32_S8x1024_d2 h_S_)) (broadcastInDim S8x1024x1 ![] bcast_S_S8x1024x1 (constant S_ .f32 0x42000000#32)))

set_option maxHeartbeats 2000000 in
theorem seg12_v95 (V : Valuation τ sig (Elt F)) : after seg12 V (Proc.devRef .tc main_v95) = t_v95 (F := F) (V (Proc.devRef .tc main_v91)) := by
  simp only [seg12, TRef.binary, TRef.nullary, TRef.ternary, TRef.unary, TRef.toBuf, TRef.ofBuf, cast_eq]
  after_results_simp <;> rfl

/-- Stretch 13 of the line: it leaves main_v96. -/
def seg13 : List (HloOp τ sig (Elt F)) :=
  [nullary main_c (constantI S_ 32 0#32),
   nullary main_call4_cst (constant S_ .f32 0x00000000#32),
   binary main_v91 main_call4_cst main_call4_v0 ((fun x v => Host.reduceAdd x v reducesTo_S8x1024x32_S8x1024_d2 h_S_) : (⟨S8x1024x32, .f32⟩ : BufTy).Contents (Elt F) → (⟨S_, .f32⟩ : BufTy).Contents (Elt F) → (⟨S8x1024, .f32⟩ : BufTy).Contents (Elt F)),
   unary main_call4_v0 main_call4_v1 ((broadcastInDim S8x1024x1 ![0, 1] bcast_S8x1024_S8x1024x1_0_1) : (⟨S8x1024, .f32⟩ : BufTy).Contents (Elt F) → (⟨S8x1024x1, .f32⟩ : BufTy).Contents (Elt F)),
   nullary main_call4_cst_0 (constant S_ .f32 0x42000000#32),
   unary main_call4_cst_0 main_call4_v2 ((broadcastInDim S8x1024x1 ![] bcast_S_S8x1024x1) : (⟨S_, .f32⟩ : BufTy).Contents (Elt F) → (⟨S8x1024x1, .f32⟩ : BufTy).Contents (Elt F)),
   binary main_call4_v1 main_call4_v2 main_call4_v3 (Host.divf : (⟨S8x1024x1, .f32⟩ : BufTy).Contents (Elt F) → (⟨S8x1024x1, .f32⟩ : BufTy).Contents (Elt F) → (⟨S8x1024x1, .f32⟩ : BufTy).Contents (Elt F)),
   unary main_call4_v3 main_call4_v4 ((broadcastInDim S8x1024x32 ![0, 1, 2] bcast_S8x1024x1_S8x1024x32_0_1_2) : (⟨S8x1024x1, .f32⟩ : BufTy).Contents (Elt F) → (⟨S8x1024x32, .f32⟩ : BufTy).Contents (Elt F)),
   binary main_v91 main_call4_v4 main_call4_v5 (subf : (⟨S8x1024x32, .f32⟩ : BufTy).Contents (Elt F) → (⟨S8x1024x32, .f32⟩ : BufTy).Contents (Elt F) → (⟨S8x1024x32, .f32⟩ : BufTy).Contents (Elt F)),
   binary main_call4_v5 main_call4_v5 main_call4_v6 (mulf : (⟨S8x1024x32, .f32⟩ : BufTy).Contents (Elt F) → (⟨S8x1024x32, .f32⟩ : BufTy).Contents (Elt F) → (⟨S8x1024x32, .f32⟩ : BufTy).Contents (Elt F)),
   unary main_c main_call4_v7 ((sitofp .f32) : (⟨S_, .i32⟩ : BufTy).Contents (Elt F) → (⟨S_, .f32⟩ : BufTy).Contents (Elt F)),
   nullary main_call4_cst_1 (constant S_ .f32 0x42000000#32),
   binary main_call4_cst_1 main_call4_v7 main_call4_v8 (subf : (⟨S_, .f32⟩ : BufTy).Contents (Elt F) → (⟨S_, .f32⟩ : BufTy).Contents (Elt F) → (⟨S_, .f32⟩ : BufTy).Contents (Elt F)),
   nullary main_call4_cst_2 (constant S_ .f32 0x00000000#32),
   binary main_call4_v6 main_call4_cst_2 main_call4_v9 ((fun x v => Host.reduceAdd x v reducesTo_S8x1024x32_S8x1024_d2 h_S_) : (⟨S8x1024x32, .f32⟩ : BufTy).Contents (Elt F) → (⟨S_, .f32⟩ : BufTy).Contents (Elt F) → (⟨S8x1024, .f32⟩ : BufTy).Contents (Elt F)),
   unary main_call4_v9 main_call4_v10 ((broadcastInDim S8x1024x1 ![0, 1] bcast_S8x1024_S8x1024x1_0_1) : (⟨S8x1024, .f32⟩ : BufTy).Contents (Elt F) → (⟨S8x1024x1, .f32⟩ : BufTy).Contents (Elt F)),
   unary main_call4_v8 main_call4_v11 ((broadcastInDim S8x1024x1 ![] bcast_S_S8x1024x1) : (⟨S_, .f32⟩ : BufTy).Contents (Elt F) → (⟨S8x1024x1, .f32⟩ : BufTy).Contents (Elt F)),
   binary main_call4_v10 main_call4_v11 main_call4_v12 (Host.divf : (⟨S8x1024x1, .f32⟩ : BufTy).Contents (Elt F) → (⟨S8x1024x1, .f32⟩ : BufTy).Contents (Elt F) → (⟨S8x1024x1, .f32⟩ : BufTy).Contents (Elt F)),
   nullary main_call4_cst_3 (constant S_ .f32 0x00000000#32),
   binary main_call4_v8 main_call4_cst_3 main_call4_v13 ((cmpf .ogt) : (⟨S_, .f32⟩ : BufTy).Contents (Elt F) → (⟨S_, .f32⟩ : BufTy).Contents (Elt F) → (⟨S_, .i1⟩ : BufTy).Contents (Elt F)),
   nullary main_call4_cst_4 (constant S_ .f32 0x7FC00000#32),
   unary main_call4_cst_4 main_call4_call0_v0 (id : (⟨S_, .f32⟩ : BufTy).Contents (Elt F) → (⟨S_, .f32⟩ : BufTy).Contents (Elt F)),
   unary main_call4_call0_v0 main_call4_call0_v1 ((broadcastInDim S8x1024x1 ![] bcast_S_S8x1024x1) : (⟨S_, .f32⟩ : BufTy).Contents (Elt F) → (⟨S8x1024x1, .f32⟩ : BufTy).Contents (Elt F)),
   ternary main_call4_v13 main_call4_v12 main_call4_call0_v1 main_v96 ((fun p a b => select (broadcastInDim S8x1024x1 ![] bcast_S_S8x1024x1 p) a b) : (⟨S_, .i1⟩ : BufTy).Contents (Elt F) → (⟨S8x1024x1, .f32⟩ : BufTy).Contents (Elt F) → (⟨S8x1024x1, .f32⟩ : BufTy).Contents (Elt F) → (⟨S8x1024x1, .f32⟩ : BufTy).Contents (Elt F))]

/-- Stretch 13 leaves every buffer that it does not write. -/
theorem seg13_keep {r : Ref sig .tc} (hr : r ∉ ([main_c, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v96] : List (Ref sig .tc)))
    (V : Valuation τ sig (Elt F)) : after seg13 V (Proc.devRef .tc r) = V (Proc.devRef .tc r) :=
  after_unwritten _ rfl hr V

/-- What stretch 13 leaves at v96, of v91. -/
def t_v96 (v91 : (⟨S8x1024x32, .f32⟩ : BufTy).Contents (Elt F)) : (⟨S8x1024x1, .f32⟩ : BufTy).Contents (Elt F) :=
  (select (broadcastInDim S8x1024x1 ![] bcast_S_S8x1024x1 ((cmpf .ogt) (subf (constant (F := F) S_ .f32 0x42000000#32) ((sitofp .f32) (constantI S_ 32 0#32))) (constant S_ .f32 0x00000000#32))) (Host.divf ((broadcastInDim S8x1024x1 ![0, 1] bcast_S8x1024_S8x1024x1_0_1) (Host.reduceAdd (mulf (subf v91 ((broadcastInDim S8x1024x32 ![0, 1, 2] bcast_S8x1024x1_S8x1024x32_0_1_2) (Host.divf ((broadcastInDim S8x1024x1 ![0, 1] bcast_S8x1024_S8x1024x1_0_1) (Host.reduceAdd v91 (constant S_ .f32 0x00000000#32) reducesTo_S8x1024x32_S8x1024_d2 h_S_)) ((broadcastInDim S8x1024x1 ![] bcast_S_S8x1024x1) (constant S_ .f32 0x42000000#32))))) (subf v91 ((broadcastInDim S8x1024x32 ![0, 1, 2] bcast_S8x1024x1_S8x1024x32_0_1_2) (Host.divf ((broadcastInDim S8x1024x1 ![0, 1] bcast_S8x1024_S8x1024x1_0_1) (Host.reduceAdd v91 (constant S_ .f32 0x00000000#32) reducesTo_S8x1024x32_S8x1024_d2 h_S_)) ((broadcastInDim S8x1024x1 ![] bcast_S_S8x1024x1) (constant S_ .f32 0x42000000#32)))))) (constant S_ .f32 0x00000000#32) reducesTo_S8x1024x32_S8x1024_d2 h_S_)) ((broadcastInDim S8x1024x1 ![] bcast_S_S8x1024x1) (subf (constant S_ .f32 0x42000000#32) ((sitofp .f32) (constantI S_ 32 0#32))))) ((broadcastInDim S8x1024x1 ![] bcast_S_S8x1024x1) (constant S_ .f32 0x7FC00000#32)))

set_option maxHeartbeats 2000000 in
theorem seg13_v96 (V : Valuation τ sig (Elt F)) : after seg13 V (Proc.devRef .tc main_v96) = t_v96 (F := F) (V (Proc.devRef .tc main_v91)) := by
  simp only [seg13, TRef.binary, TRef.nullary, TRef.ternary, TRef.unary, TRef.toBuf, TRef.ofBuf, cast_eq]
  after_results_simp <;> rfl

/-- Stretch 14 of the line: it leaves main_v109, main_v110. -/
def seg14 : List (HloOp τ sig (Elt F)) :=
  [unary main_v95 main_v97 (broadcastInDim S8x1024x32 ![0, 1, 2] bcast_S8x1024x1_S8x1024x32_0_1_2 : (⟨S8x1024x1, .f32⟩ : BufTy).Contents (Elt F) → (⟨S8x1024x32, .f32⟩ : BufTy).Contents (Elt F)),
   binary main_v91 main_v97 main_v98 (subf : (⟨S8x1024x32, .f32⟩ : BufTy).Contents (Elt F) → (⟨S8x1024x32, .f32⟩ : BufTy).Contents (Elt F) → (⟨S8x1024x32, .f32⟩ : BufTy).Contents (Elt F)),
   nullary main_cst_16 (constant S_ .f32 0x3727C5AC#32),
   unary main_cst_16 main_v99 (broadcastInDim S8x1024x1 ![] bcast_S_S8x1024x1 : (⟨S_, .f32⟩ : BufTy).Contents (Elt F) → (⟨S8x1024x1, .f32⟩ : BufTy).Contents (Elt F)),
   binary main_v96 main_v99 main_v100 (addf : (⟨S8x1024x1, .f32⟩ : BufTy).Contents (Elt F) → (⟨S8x1024x1, .f32⟩ : BufTy).Contents (Elt F) → (⟨S8x1024x1, .f32⟩ : BufTy).Contents (Elt F)),
   unary main_v100 main_v101 (Host.sqrt : (⟨S8x1024x1, .f32⟩ : BufTy).Contents (Elt F) → (⟨S8x1024x1, .f32⟩ : BufTy).Contents (Elt F)),
   unary main_v101 main_v102 (broadcastInDim S8x1024x32 ![0, 1, 2] bcast_S8x1024x1_S8x1024x32_0_1_2 : (⟨S8x1024x1, .f32⟩ : BufTy).Contents (Elt F) → (⟨S8x1024x32, .f32⟩ : BufTy).Contents (Elt F)),
   binary main_v98 main_v102 main_v103 (Host.divf : (⟨S8x1024x32, .f32⟩ : BufTy).Contents (Elt F) → (⟨S8x1024x32, .f32⟩ : BufTy).Contents (Elt F) → (⟨S8x1024x32, .f32⟩ : BufTy).Contents (Elt F)),
   unary main_arg4 main_v104 (broadcastInDim S1x1x32 ![2] bcast_S32_S1x1x32_2 : (⟨S32, .f32⟩ : BufTy).Contents (Elt F) → (⟨S1x1x32, .f32⟩ : BufTy).Contents (Elt F)),
   unary main_v104 main_v105 (broadcastInDim S8x1024x32 ![0, 1, 2] bcast_S1x1x32_S8x1024x32_0_1_2 : (⟨S1x1x32, .f32⟩ : BufTy).Contents (Elt F) → (⟨S8x1024x32, .f32⟩ : BufTy).Contents (Elt F)),
   binary main_v103 main_v105 main_v106 (mulf : (⟨S8x1024x32, .f32⟩ : BufTy).Contents (Elt F) → (⟨S8x1024x32, .f32⟩ : BufTy).Contents (Elt F) → (⟨S8x1024x32, .f32⟩ : BufTy).Contents (Elt F)),
   unary main_arg5 main_v107 (broadcastInDim S1x1x32 ![2] bcast_S32_S1x1x32_2 : (⟨S32, .f32⟩ : BufTy).Contents (Elt F) → (⟨S1x1x32, .f32⟩ : BufTy).Contents (Elt F)),
   unary main_v107 main_v108 (broadcastInDim S8x1024x32 ![0, 1, 2] bcast_S1x1x32_S8x1024x32_0_1_2 : (⟨S1x1x32, .f32⟩ : BufTy).Contents (Elt F) → (⟨S8x1024x32, .f32⟩ : BufTy).Contents (Elt F)),
   binary main_v106 main_v108 main_v109 (addf : (⟨S8x1024x32, .f32⟩ : BufTy).Contents (Elt F) → (⟨S8x1024x32, .f32⟩ : BufTy).Contents (Elt F) → (⟨S8x1024x32, .f32⟩ : BufTy).Contents (Elt F)),
   nullary main_c_17 (constantI S_ 32 1#32),
   unary main_c_17 main_v110 (broadcastInDim S8x1024 ![] bcast_S_S8x1024 : (⟨S_, .i32⟩ : BufTy).Contents (Elt F) → (⟨S8x1024, .i32⟩ : BufTy).Contents (Elt F))]

/-- Stretch 14 leaves every buffer that it does not write. -/
theorem seg14_keep {r : Ref sig .tc} (hr : r ∉ ([main_v97, main_v98, main_cst_16, main_v99, main_v100, main_v101, main_v102, main_v103, main_v104, main_v105, main_v106, main_v107, main_v108, main_v109, main_c_17, main_v110] : List (Ref sig .tc)))
    (V : Valuation τ sig (Elt F)) : after seg14 V (Proc.devRef .tc r) = V (Proc.devRef .tc r) :=
  after_unwritten _ rfl hr V

/-- What stretch 14 leaves at v109, of v91, v95, v96, arg4, arg5. -/
def t_v109 (v91 : (⟨S8x1024x32, .f32⟩ : BufTy).Contents (Elt F)) (v95 : (⟨S8x1024x1, .f32⟩ : BufTy).Contents (Elt F)) (v96 : (⟨S8x1024x1, .f32⟩ : BufTy).Contents (Elt F)) (arg4 : (⟨S32, .f32⟩ : BufTy).Contents (Elt F)) (arg5 : (⟨S32, .f32⟩ : BufTy).Contents (Elt F)) : (⟨S8x1024x32, .f32⟩ : BufTy).Contents (Elt F) :=
  (addf (mulf (Host.divf (subf v91 (broadcastInDim S8x1024x32 ![0, 1, 2] bcast_S8x1024x1_S8x1024x32_0_1_2 v95)) (broadcastInDim S8x1024x32 ![0, 1, 2] bcast_S8x1024x1_S8x1024x32_0_1_2 (Host.sqrt (addf v96 (broadcastInDim S8x1024x1 ![] bcast_S_S8x1024x1 (constant S_ .f32 0x3727C5AC#32)))))) (broadcastInDim S8x1024x32 ![0, 1, 2] bcast_S1x1x32_S8x1024x32_0_1_2 (broadcastInDim S1x1x32 ![2] bcast_S32_S1x1x32_2 arg4))) (broadcastInDim S8x1024x32 ![0, 1, 2] bcast_S1x1x32_S8x1024x32_0_1_2 (broadcastInDim S1x1x32 ![2] bcast_S32_S1x1x32_2 arg5)))

set_option maxHeartbeats 2000000 in
theorem seg14_v109 (V : Valuation τ sig (Elt F)) : after seg14 V (Proc.devRef .tc main_v109) = t_v109 (F := F) (V (Proc.devRef .tc main_v91)) (V (Proc.devRef .tc main_v95)) (V (Proc.devRef .tc main_v96)) (V (Proc.devRef .tc main_arg4)) (V (Proc.devRef .tc main_arg5)) := by
  simp only [seg14, TRef.binary, TRef.nullary, TRef.ternary, TRef.unary, TRef.toBuf, TRef.ofBuf, cast_eq]
  after_results_simp <;> rfl

/-- What stretch 14 leaves at v110, of nothing. -/
def t_v110 : (⟨S8x1024, .i32⟩ : BufTy).Contents (Elt F) :=
  (broadcastInDim S8x1024 ![] bcast_S_S8x1024 (constantI S_ 32 1#32))

set_option maxHeartbeats 2000000 in
theorem seg14_v110 (V : Valuation τ sig (Elt F)) : after seg14 V (Proc.devRef .tc main_v110) = t_v110  := by
  simp only [seg14, TRef.binary, TRef.nullary, TRef.ternary, TRef.unary, TRef.toBuf, TRef.ofBuf, cast_eq]
  after_results_simp <;> rfl

/-- The whole line. -/
def ops : List (HloOp τ sig (Elt F)) :=
  seg1 ++ (seg2 ++ (seg3 ++ (seg4 ++ (seg5 ++ (seg6 ++ (seg7 ++ (seg8 ++ (seg9 ++ (seg10 ++ (seg11 ++ (seg12 ++ (seg13 ++ (seg14)))))))))))))

set_option maxHeartbeats 4000000 in
theorem main_eq (c : Dev nD) : main (F := F) c = seq (ops (F := F)) := rfl
/-- No buffer is scoped. -/
theorem scopedRefs_eq : (Finset.univ.filter fun b : Ref sig .tc => b.isScoped) = ∅ := by decide
/-- No counter is scoped. -/
theorem scopedSems_eq : (Finset.univ.filter fun sm : SemLoc sig => sm.isScoped .tc) = ∅ := by decide

set_option maxHeartbeats 4000000 in
theorem ops_sub : (ops : List (HloOp τ sig (Elt F))).Forall fun op => op.bufs ⊆ tcRefs τ sig :=
  ⟨reshape_bufs_sub .., nullary_bufs_sub .., binary_bufs_sub .., binary_bufs_sub .., unary_bufs_sub .., unary_bufs_sub .., unary_bufs_sub .., binary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., reshape_bufs_sub .., unary_bufs_sub .., unary_bufs_sub .., unary_bufs_sub .., unary_bufs_sub .., unary_bufs_sub .., unary_bufs_sub .., binary_bufs_sub .., reshape_bufs_sub .., binary_bufs_sub .., unary_bufs_sub .., binary_bufs_sub .., reshape_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub ..⟩

set_option maxHeartbeats 4000000 in
theorem ops_fresh : ∀ op ∈ (ops : List (HloOp τ sig (Elt F))), op.fresh = ∅ :=
  List.forall_iff_forall_mem.mp (show (ops : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- An argument is written by no stretch. -/
theorem ops_arg {r : Ref sig .tc} (hr : r ∈ ([main_arg0, main_arg1, main_arg2, main_arg3, main_arg4, main_arg5] : List (Ref sig .tc)))
    (V : Valuation τ sig (Elt F)) : after ops V (Proc.devRef .tc r) = V (Proc.devRef .tc r) := by
  have h : ∀ s ∈ ([main_arg0, main_arg1, main_arg2, main_arg3, main_arg4, main_arg5] : List (Ref sig .tc)), ∀ {l : List (Ref sig .tc)}, (∀ s ∈ ([main_arg0, main_arg1, main_arg2, main_arg3, main_arg4, main_arg5] : List (Ref sig .tc)), s ∉ l) → s ∉ l := fun s hs _ h => h s hs
  unfold ops
  simp only [after_append_]
  rw [seg14_keep (h _ hr (by decide)), seg13_keep (h _ hr (by decide)), seg12_keep (h _ hr (by decide)), seg11_keep (h _ hr (by decide)), seg10_keep (h _ hr (by decide)), seg9_keep (h _ hr (by decide)), seg8_keep (h _ hr (by decide)), seg7_keep (h _ hr (by decide)), seg6_keep (h _ hr (by decide)), seg5_keep (h _ hr (by decide)), seg4_keep (h _ hr (by decide)), seg3_keep (h _ hr (by decide)), seg2_keep (h _ hr (by decide)), seg1_keep (h _ hr (by decide))]

/-- v8 of the arguments. -/
def r_v8 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8192x32, .f32⟩ : BufTy).Contents (Elt F) :=
  t_v8 (F := F) (a0) (a1) (a2)

/-- v22 of the arguments. -/
def r_v22 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8192x8192, .f32⟩ : BufTy).Contents (Elt F) :=
  t_v22 (F := F) (r_v8 a0 a1 a2 a3 a4 a5) (a3)

/-- v23 of the arguments. -/
def r_v23 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8192, .i32⟩ : BufTy).Contents (Elt F) :=
  t_v23 (F := F) (r_v22 a0 a1 a2 a3 a4 a5)

/-- v24 of the arguments. -/
def r_v24 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8192x32, .f32⟩ : BufTy).Contents (Elt F) :=
  t_v24 (F := F) (a3) (r_v23 a0 a1 a2 a3 a4 a5)

/-- v29 of the arguments. -/
def r_v29 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32x32, .f32⟩ : BufTy).Contents (Elt F) :=
  t_v29 (F := F) (r_v8 a0 a1 a2 a3 a4 a5) (r_v24 a0 a1 a2 a3 a4 a5)

/-- v31 of the arguments. -/
def r_v31 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32, .f32⟩ : BufTy).Contents (Elt F) :=
  t_v31 (F := F)

/-- v32 of the arguments. -/
def r_v32 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32, .f32⟩ : BufTy).Contents (Elt F) :=
  t_v32 (F := F)

/-- v41 of the arguments. -/
def r_v41 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32, .f32⟩ : BufTy).Contents (Elt F) :=
  t_v41 (F := F) (r_v31 a0 a1 a2 a3 a4 a5)

/-- v50 of the arguments. -/
def r_v50 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32, .f32⟩ : BufTy).Contents (Elt F) :=
  t_v50 (F := F) (r_v32 a0 a1 a2 a3 a4 a5)

/-- v60 of the arguments. -/
def r_v60 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S16, .f32⟩ : BufTy).Contents (Elt F) :=
  t_v60 (F := F)

/-- v65 of the arguments. -/
def r_v65 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32x16, .f32⟩ : BufTy).Contents (Elt F) :=
  t_v65 (F := F) (r_v50 a0 a1 a2 a3 a4 a5) (r_v60 a0 a1 a2 a3 a4 a5)

/-- v70 of the arguments. -/
def r_v70 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32x16, .f32⟩ : BufTy).Contents (Elt F) :=
  t_v70 (F := F) (r_v41 a0 a1 a2 a3 a4 a5) (r_v60 a0 a1 a2 a3 a4 a5)

/-- v88 of the arguments. -/
def r_v88 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x32x32x32, .f32⟩ : BufTy).Contents (Elt F) :=
  t_v88 (F := F) (r_v65 a0 a1 a2 a3 a4 a5) (r_v70 a0 a1 a2 a3 a4 a5)

/-- v91 of the arguments. -/
def r_v91 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x1024x32, .f32⟩ : BufTy).Contents (Elt F) :=
  t_v91 (F := F) (r_v29 a0 a1 a2 a3 a4 a5) (r_v88 a0 a1 a2 a3 a4 a5)

/-- v95 of the arguments. -/
def r_v95 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x1024x1, .f32⟩ : BufTy).Contents (Elt F) :=
  t_v95 (F := F) (r_v91 a0 a1 a2 a3 a4 a5)

/-- v96 of the arguments. -/
def r_v96 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x1024x1, .f32⟩ : BufTy).Contents (Elt F) :=
  t_v96 (F := F) (r_v91 a0 a1 a2 a3 a4 a5)

/-- v109 of the arguments. -/
def r_v109 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x1024x32, .f32⟩ : BufTy).Contents (Elt F) :=
  t_v109 (F := F) (r_v91 a0 a1 a2 a3 a4 a5) (r_v95 a0 a1 a2 a3 a4 a5) (r_v96 a0 a1 a2 a3 a4 a5) (a4) (a5)

/-- v110 of the arguments. -/
def r_v110 (a0 : (⟨S8x768x64x64, .f32⟩ : BufTy).Contents (Elt F)) (a1 : (⟨S32x768, .f32⟩ : BufTy).Contents (Elt F)) (a2 : (⟨S32, .f32⟩ : BufTy).Contents (Elt F)) (a3 : (⟨S8192x32, .f32⟩ : BufTy).Contents (Elt F)) (a4 : (⟨S32, .f32⟩ : BufTy).Contents (Elt F)) (a5 : (⟨S32, .f32⟩ : BufTy).Contents (Elt F)) : (⟨S8x1024, .i32⟩ : BufTy).Contents (Elt F) :=
  t_v110

/-- The contents the first stretches leave. -/
def st1 (V : Valuation τ sig (Elt F)) : Valuation τ sig (Elt F) := after seg1 V
/-- The contents the first 2 stretches leave. -/
def st2 (V : Valuation τ sig (Elt F)) : Valuation τ sig (Elt F) := after seg2 (st1 V)
/-- The contents the first 3 stretches leave. -/
def st3 (V : Valuation τ sig (Elt F)) : Valuation τ sig (Elt F) := after seg3 (st2 V)
/-- The contents the first 4 stretches leave. -/
def st4 (V : Valuation τ sig (Elt F)) : Valuation τ sig (Elt F) := after seg4 (st3 V)
/-- The contents the first 5 stretches leave. -/
def st5 (V : Valuation τ sig (Elt F)) : Valuation τ sig (Elt F) := after seg5 (st4 V)
/-- The contents the first 6 stretches leave. -/
def st6 (V : Valuation τ sig (Elt F)) : Valuation τ sig (Elt F) := after seg6 (st5 V)
/-- The contents the first 7 stretches leave. -/
def st7 (V : Valuation τ sig (Elt F)) : Valuation τ sig (Elt F) := after seg7 (st6 V)
/-- The contents the first 8 stretches leave. -/
def st8 (V : Valuation τ sig (Elt F)) : Valuation τ sig (Elt F) := after seg8 (st7 V)
/-- The contents the first 9 stretches leave. -/
def st9 (V : Valuation τ sig (Elt F)) : Valuation τ sig (Elt F) := after seg9 (st8 V)
/-- The contents the first 10 stretches leave. -/
def st10 (V : Valuation τ sig (Elt F)) : Valuation τ sig (Elt F) := after seg10 (st9 V)
/-- The contents the first 11 stretches leave. -/
def st11 (V : Valuation τ sig (Elt F)) : Valuation τ sig (Elt F) := after seg11 (st10 V)
/-- The contents the first 12 stretches leave. -/
def st12 (V : Valuation τ sig (Elt F)) : Valuation τ sig (Elt F) := after seg12 (st11 V)
/-- The contents the first 13 stretches leave. -/
def st13 (V : Valuation τ sig (Elt F)) : Valuation τ sig (Elt F) := after seg13 (st12 V)
/-- The contents the first 14 stretches leave. -/
def st14 (V : Valuation τ sig (Elt F)) : Valuation τ sig (Elt F) := after seg14 (st13 V)

/-- The operations are the fourteen stretches. -/
theorem after_ops (V : Valuation τ sig (Elt F)) : after ops V = st14 V := by
  unfold ops
  simp only [after_append_]
  rfl

/-- Value 8 of the arguments stands in its buffer after 1 stretches. -/
theorem st1_v8 (V : Valuation τ sig (Elt F)) : st1 V (Proc.devRef .tc main_v8) = r_v8 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st1, seg1_v8]; rfl
/-- Argument 3 stands as it was after 1 stretches. -/
theorem st1_arg3 (V : Valuation τ sig (Elt F)) : st1 V (Proc.devRef .tc main_arg3) = V (Proc.devRef .tc main_arg3) :=
  seg1_keep (by decide) _
/-- Argument 4 stands as it was after 1 stretches. -/
theorem st1_arg4 (V : Valuation τ sig (Elt F)) : st1 V (Proc.devRef .tc main_arg4) = V (Proc.devRef .tc main_arg4) :=
  seg1_keep (by decide) _
/-- Argument 5 stands as it was after 1 stretches. -/
theorem st1_arg5 (V : Valuation τ sig (Elt F)) : st1 V (Proc.devRef .tc main_arg5) = V (Proc.devRef .tc main_arg5) :=
  seg1_keep (by decide) _

/-- Value 8 of the arguments stands in its buffer after 2 stretches. -/
theorem st2_v8 (V : Valuation τ sig (Elt F)) : st2 V (Proc.devRef .tc main_v8) = r_v8 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg2_keep (by decide) _).trans (st1_v8 V)
/-- Argument 3 stands as it was after 2 stretches. -/
theorem st2_arg3 (V : Valuation τ sig (Elt F)) : st2 V (Proc.devRef .tc main_arg3) = V (Proc.devRef .tc main_arg3) :=
  (seg2_keep (by decide) _).trans (st1_arg3 V)
/-- Value 22 of the arguments stands in its buffer after 2 stretches. -/
theorem st2_v22 (V : Valuation τ sig (Elt F)) : st2 V (Proc.devRef .tc main_v22) = r_v22 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st2, seg2_v22, st1_v8, st1_arg3]; rfl
/-- Argument 4 stands as it was after 2 stretches. -/
theorem st2_arg4 (V : Valuation τ sig (Elt F)) : st2 V (Proc.devRef .tc main_arg4) = V (Proc.devRef .tc main_arg4) :=
  (seg2_keep (by decide) _).trans (st1_arg4 V)
/-- Argument 5 stands as it was after 2 stretches. -/
theorem st2_arg5 (V : Valuation τ sig (Elt F)) : st2 V (Proc.devRef .tc main_arg5) = V (Proc.devRef .tc main_arg5) :=
  (seg2_keep (by decide) _).trans (st1_arg5 V)

/-- Value 8 of the arguments stands in its buffer after 3 stretches. -/
theorem st3_v8 (V : Valuation τ sig (Elt F)) : st3 V (Proc.devRef .tc main_v8) = r_v8 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg3_keep (by decide) _).trans (st2_v8 V)
/-- Argument 3 stands as it was after 3 stretches. -/
theorem st3_arg3 (V : Valuation τ sig (Elt F)) : st3 V (Proc.devRef .tc main_arg3) = V (Proc.devRef .tc main_arg3) :=
  (seg3_keep (by decide) _).trans (st2_arg3 V)
/-- Value 23 of the arguments stands in its buffer after 3 stretches. -/
theorem st3_v23 (V : Valuation τ sig (Elt F)) : st3 V (Proc.devRef .tc main_v23) = r_v23 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st3, seg3_v23, st2_v22]; rfl
/-- Argument 4 stands as it was after 3 stretches. -/
theorem st3_arg4 (V : Valuation τ sig (Elt F)) : st3 V (Proc.devRef .tc main_arg4) = V (Proc.devRef .tc main_arg4) :=
  (seg3_keep (by decide) _).trans (st2_arg4 V)
/-- Argument 5 stands as it was after 3 stretches. -/
theorem st3_arg5 (V : Valuation τ sig (Elt F)) : st3 V (Proc.devRef .tc main_arg5) = V (Proc.devRef .tc main_arg5) :=
  (seg3_keep (by decide) _).trans (st2_arg5 V)

/-- Value 8 of the arguments stands in its buffer after 4 stretches. -/
theorem st4_v8 (V : Valuation τ sig (Elt F)) : st4 V (Proc.devRef .tc main_v8) = r_v8 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg4_keep (by decide) _).trans (st3_v8 V)
/-- Value 24 of the arguments stands in its buffer after 4 stretches. -/
theorem st4_v24 (V : Valuation τ sig (Elt F)) : st4 V (Proc.devRef .tc main_v24) = r_v24 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st4, seg4_v24, st3_arg3, st3_v23]; rfl
/-- Argument 4 stands as it was after 4 stretches. -/
theorem st4_arg4 (V : Valuation τ sig (Elt F)) : st4 V (Proc.devRef .tc main_arg4) = V (Proc.devRef .tc main_arg4) :=
  (seg4_keep (by decide) _).trans (st3_arg4 V)
/-- Argument 5 stands as it was after 4 stretches. -/
theorem st4_arg5 (V : Valuation τ sig (Elt F)) : st4 V (Proc.devRef .tc main_arg5) = V (Proc.devRef .tc main_arg5) :=
  (seg4_keep (by decide) _).trans (st3_arg5 V)

/-- Value 29 of the arguments stands in its buffer after 5 stretches. -/
theorem st5_v29 (V : Valuation τ sig (Elt F)) : st5 V (Proc.devRef .tc main_v29) = r_v29 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st5, seg5_v29, st4_v8, st4_v24]; rfl
/-- Argument 4 stands as it was after 5 stretches. -/
theorem st5_arg4 (V : Valuation τ sig (Elt F)) : st5 V (Proc.devRef .tc main_arg4) = V (Proc.devRef .tc main_arg4) :=
  (seg5_keep (by decide) _).trans (st4_arg4 V)
/-- Argument 5 stands as it was after 5 stretches. -/
theorem st5_arg5 (V : Valuation τ sig (Elt F)) : st5 V (Proc.devRef .tc main_arg5) = V (Proc.devRef .tc main_arg5) :=
  (seg5_keep (by decide) _).trans (st4_arg5 V)

/-- Value 31 of the arguments stands in its buffer after 6 stretches. -/
theorem st6_v31 (V : Valuation τ sig (Elt F)) : st6 V (Proc.devRef .tc main_v31) = r_v31 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st6, seg6_v31]; rfl
/-- Value 32 of the arguments stands in its buffer after 6 stretches. -/
theorem st6_v32 (V : Valuation τ sig (Elt F)) : st6 V (Proc.devRef .tc main_v32) = r_v32 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st6, seg6_v32]; rfl
/-- Value 29 of the arguments stands in its buffer after 6 stretches. -/
theorem st6_v29 (V : Valuation τ sig (Elt F)) : st6 V (Proc.devRef .tc main_v29) = r_v29 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg6_keep (by decide) _).trans (st5_v29 V)
/-- Argument 4 stands as it was after 6 stretches. -/
theorem st6_arg4 (V : Valuation τ sig (Elt F)) : st6 V (Proc.devRef .tc main_arg4) = V (Proc.devRef .tc main_arg4) :=
  (seg6_keep (by decide) _).trans (st5_arg4 V)
/-- Argument 5 stands as it was after 6 stretches. -/
theorem st6_arg5 (V : Valuation τ sig (Elt F)) : st6 V (Proc.devRef .tc main_arg5) = V (Proc.devRef .tc main_arg5) :=
  (seg6_keep (by decide) _).trans (st5_arg5 V)

/-- Value 41 of the arguments stands in its buffer after 7 stretches. -/
theorem st7_v41 (V : Valuation τ sig (Elt F)) : st7 V (Proc.devRef .tc main_v41) = r_v41 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st7, seg7_v41, st6_v31]; rfl
/-- Value 50 of the arguments stands in its buffer after 7 stretches. -/
theorem st7_v50 (V : Valuation τ sig (Elt F)) : st7 V (Proc.devRef .tc main_v50) = r_v50 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st7, seg7_v50, st6_v32]; rfl
/-- Value 29 of the arguments stands in its buffer after 7 stretches. -/
theorem st7_v29 (V : Valuation τ sig (Elt F)) : st7 V (Proc.devRef .tc main_v29) = r_v29 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg7_keep (by decide) _).trans (st6_v29 V)
/-- Argument 4 stands as it was after 7 stretches. -/
theorem st7_arg4 (V : Valuation τ sig (Elt F)) : st7 V (Proc.devRef .tc main_arg4) = V (Proc.devRef .tc main_arg4) :=
  (seg7_keep (by decide) _).trans (st6_arg4 V)
/-- Argument 5 stands as it was after 7 stretches. -/
theorem st7_arg5 (V : Valuation τ sig (Elt F)) : st7 V (Proc.devRef .tc main_arg5) = V (Proc.devRef .tc main_arg5) :=
  (seg7_keep (by decide) _).trans (st6_arg5 V)

/-- Value 41 of the arguments stands in its buffer after 8 stretches. -/
theorem st8_v41 (V : Valuation τ sig (Elt F)) : st8 V (Proc.devRef .tc main_v41) = r_v41 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg8_keep (by decide) _).trans (st7_v41 V)
/-- Value 50 of the arguments stands in its buffer after 8 stretches. -/
theorem st8_v50 (V : Valuation τ sig (Elt F)) : st8 V (Proc.devRef .tc main_v50) = r_v50 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg8_keep (by decide) _).trans (st7_v50 V)
/-- Value 60 of the arguments stands in its buffer after 8 stretches. -/
theorem st8_v60 (V : Valuation τ sig (Elt F)) : st8 V (Proc.devRef .tc main_v60) = r_v60 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st8, seg8_v60]; rfl
/-- Value 29 of the arguments stands in its buffer after 8 stretches. -/
theorem st8_v29 (V : Valuation τ sig (Elt F)) : st8 V (Proc.devRef .tc main_v29) = r_v29 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg8_keep (by decide) _).trans (st7_v29 V)
/-- Argument 4 stands as it was after 8 stretches. -/
theorem st8_arg4 (V : Valuation τ sig (Elt F)) : st8 V (Proc.devRef .tc main_arg4) = V (Proc.devRef .tc main_arg4) :=
  (seg8_keep (by decide) _).trans (st7_arg4 V)
/-- Argument 5 stands as it was after 8 stretches. -/
theorem st8_arg5 (V : Valuation τ sig (Elt F)) : st8 V (Proc.devRef .tc main_arg5) = V (Proc.devRef .tc main_arg5) :=
  (seg8_keep (by decide) _).trans (st7_arg5 V)

/-- Value 65 of the arguments stands in its buffer after 9 stretches. -/
theorem st9_v65 (V : Valuation τ sig (Elt F)) : st9 V (Proc.devRef .tc main_v65) = r_v65 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st9, seg9_v65, st8_v50, st8_v60]; rfl
/-- Value 70 of the arguments stands in its buffer after 9 stretches. -/
theorem st9_v70 (V : Valuation τ sig (Elt F)) : st9 V (Proc.devRef .tc main_v70) = r_v70 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st9, seg9_v70, st8_v41, st8_v60]; rfl
/-- Value 29 of the arguments stands in its buffer after 9 stretches. -/
theorem st9_v29 (V : Valuation τ sig (Elt F)) : st9 V (Proc.devRef .tc main_v29) = r_v29 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg9_keep (by decide) _).trans (st8_v29 V)
/-- Argument 4 stands as it was after 9 stretches. -/
theorem st9_arg4 (V : Valuation τ sig (Elt F)) : st9 V (Proc.devRef .tc main_arg4) = V (Proc.devRef .tc main_arg4) :=
  (seg9_keep (by decide) _).trans (st8_arg4 V)
/-- Argument 5 stands as it was after 9 stretches. -/
theorem st9_arg5 (V : Valuation τ sig (Elt F)) : st9 V (Proc.devRef .tc main_arg5) = V (Proc.devRef .tc main_arg5) :=
  (seg9_keep (by decide) _).trans (st8_arg5 V)

/-- Value 29 of the arguments stands in its buffer after 10 stretches. -/
theorem st10_v29 (V : Valuation τ sig (Elt F)) : st10 V (Proc.devRef .tc main_v29) = r_v29 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg10_keep (by decide) _).trans (st9_v29 V)
/-- Value 88 of the arguments stands in its buffer after 10 stretches. -/
theorem st10_v88 (V : Valuation τ sig (Elt F)) : st10 V (Proc.devRef .tc main_v88) = r_v88 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st10, seg10_v88, st9_v65, st9_v70]; rfl
/-- Argument 4 stands as it was after 10 stretches. -/
theorem st10_arg4 (V : Valuation τ sig (Elt F)) : st10 V (Proc.devRef .tc main_arg4) = V (Proc.devRef .tc main_arg4) :=
  (seg10_keep (by decide) _).trans (st9_arg4 V)
/-- Argument 5 stands as it was after 10 stretches. -/
theorem st10_arg5 (V : Valuation τ sig (Elt F)) : st10 V (Proc.devRef .tc main_arg5) = V (Proc.devRef .tc main_arg5) :=
  (seg10_keep (by decide) _).trans (st9_arg5 V)

/-- Value 91 of the arguments stands in its buffer after 11 stretches. -/
theorem st11_v91 (V : Valuation τ sig (Elt F)) : st11 V (Proc.devRef .tc main_v91) = r_v91 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st11, seg11_v91, st10_v29, st10_v88]; rfl
/-- Argument 4 stands as it was after 11 stretches. -/
theorem st11_arg4 (V : Valuation τ sig (Elt F)) : st11 V (Proc.devRef .tc main_arg4) = V (Proc.devRef .tc main_arg4) :=
  (seg11_keep (by decide) _).trans (st10_arg4 V)
/-- Argument 5 stands as it was after 11 stretches. -/
theorem st11_arg5 (V : Valuation τ sig (Elt F)) : st11 V (Proc.devRef .tc main_arg5) = V (Proc.devRef .tc main_arg5) :=
  (seg11_keep (by decide) _).trans (st10_arg5 V)

/-- Value 91 of the arguments stands in its buffer after 12 stretches. -/
theorem st12_v91 (V : Valuation τ sig (Elt F)) : st12 V (Proc.devRef .tc main_v91) = r_v91 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg12_keep (by decide) _).trans (st11_v91 V)
/-- Value 95 of the arguments stands in its buffer after 12 stretches. -/
theorem st12_v95 (V : Valuation τ sig (Elt F)) : st12 V (Proc.devRef .tc main_v95) = r_v95 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st12, seg12_v95, st11_v91]; rfl
/-- Argument 4 stands as it was after 12 stretches. -/
theorem st12_arg4 (V : Valuation τ sig (Elt F)) : st12 V (Proc.devRef .tc main_arg4) = V (Proc.devRef .tc main_arg4) :=
  (seg12_keep (by decide) _).trans (st11_arg4 V)
/-- Argument 5 stands as it was after 12 stretches. -/
theorem st12_arg5 (V : Valuation τ sig (Elt F)) : st12 V (Proc.devRef .tc main_arg5) = V (Proc.devRef .tc main_arg5) :=
  (seg12_keep (by decide) _).trans (st11_arg5 V)

/-- Value 91 of the arguments stands in its buffer after 13 stretches. -/
theorem st13_v91 (V : Valuation τ sig (Elt F)) : st13 V (Proc.devRef .tc main_v91) = r_v91 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg13_keep (by decide) _).trans (st12_v91 V)
/-- Value 95 of the arguments stands in its buffer after 13 stretches. -/
theorem st13_v95 (V : Valuation τ sig (Elt F)) : st13 V (Proc.devRef .tc main_v95) = r_v95 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg13_keep (by decide) _).trans (st12_v95 V)
/-- Value 96 of the arguments stands in its buffer after 13 stretches. -/
theorem st13_v96 (V : Valuation τ sig (Elt F)) : st13 V (Proc.devRef .tc main_v96) = r_v96 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st13, seg13_v96, st12_v91]; rfl
/-- Argument 4 stands as it was after 13 stretches. -/
theorem st13_arg4 (V : Valuation τ sig (Elt F)) : st13 V (Proc.devRef .tc main_arg4) = V (Proc.devRef .tc main_arg4) :=
  (seg13_keep (by decide) _).trans (st12_arg4 V)
/-- Argument 5 stands as it was after 13 stretches. -/
theorem st13_arg5 (V : Valuation τ sig (Elt F)) : st13 V (Proc.devRef .tc main_arg5) = V (Proc.devRef .tc main_arg5) :=
  (seg13_keep (by decide) _).trans (st12_arg5 V)

/-- Value 109 of the arguments stands in its buffer after 14 stretches. -/
theorem st14_v109 (V : Valuation τ sig (Elt F)) : st14 V (Proc.devRef .tc main_v109) = r_v109 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st14, seg14_v109, st13_v91, st13_v95, st13_v96, st13_arg4, st13_arg5]; rfl
/-- Value 110 of the arguments stands in its buffer after 14 stretches. -/
theorem st14_v110 (V : Valuation τ sig (Elt F)) : st14 V (Proc.devRef .tc main_v110) = r_v110 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [st14, seg14_v110]; rfl

/-- Every run of the reference ends with its results at their terms of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = r_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v110) = r_v110 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v109).trans ((congrFun (after_ops _) _).trans (st14_v109 _)),
      (h c main_v110).trans ((congrFun (after_ops _) _).trans (st14_v110 _)),
      (h c main_arg0).trans (ops_arg (by decide) _),
      (h c main_arg1).trans (ops_arg (by decide) _),
      (h c main_arg2).trans (ops_arg (by decide) _),
      (h c main_arg3).trans (ops_arg (by decide) _),
      (h c main_arg4).trans (ops_arg (by decide) _),
      (h c main_arg5).trans (ops_arg (by decide) _)⟩)
    (run_seq scopedRefs_eq scopedSems_eq defs main (fun _ => ops) main_eq (fun _ => ops_sub) m ρ (fun _ => ops_fresh))

end Cert.RefRun

end
-- ==== Proof.KerE.lean ====
module

public import proofs.«01_k».proof.Proof.Gen.KernelIdeal
public import proofs.«01_k».proof.Proof.Gen.KernelIdeal.Frame
public import proofs.«01_k».proof.Proof.RefRun
public import Idealize.ShloMosaic.Lib.Claim

@[expose] public section

set_option maxRecDepth 16384

noncomputable section
namespace Cert.Val
open Idealize.ShloMosaic Idealize.ShloMosaic.TcCoe Idealize.SL.Sem Cert.KernelIdeal Cert.KernelIdeal.Gen

variable {F : FTy → Type} [FloatOps F] [Named F]
variable (m : (ℓ : Loc nD τ sig) → Buf (Elt F) ℓ) (c : Dev nD)

/-- The features the host line makes, the same term as the reference's. -/
abbrev feat : FVec F S8192x32 .f32 :=
  Cert.RefRun.t_v8 (F := F) (m ((c : Thread nD τ).loc main_arg0)) (m ((c : Thread nD τ).loc main_arg1)) (m ((c : Thread nD τ).loc main_arg2))

/-- The first operand of the launch: the features narrowed and transposed. -/
theorem V_v10 : V m c main_v10 = transpose S32x8192 [1, 0] (truncf (F := F) .bf16 (feat m c) bitsLt_bf16_f32) transposes_S8192x32_S32x8192_1_0 := by
  simp only [V, V0, hostOps0, List.flatten_cons, List.flatten_nil, List.append_nil]
  after_results_simp
  refine congrArg (fun x : FVec F S8192x32 .f32 => transpose S32x8192 [1, 0] (truncf (F := F) .bf16 x bitsLt_bf16_f32) transposes_S8192x32_S32x8192_1_0) ?_
  rfl
/-- The second operand: the codes transposed. -/
theorem V_v17 : V m c main_v17 = transpose S32x8192 [1, 0] (m ((c : Thread nD τ).loc main_arg3)) transposes_S8192x32_S32x8192_1_0 := by
  simp only [V, V0, hostOps0, List.flatten_cons, List.flatten_nil, List.append_nil]
  after_results_simp
/-- The features the host line leaves. -/
theorem V_v8 : V m c main_v8 = feat m c := by
  simp only [V, V0, hostOps0, List.flatten_cons, List.flatten_nil, List.append_nil]
  after_results_simp
  rfl
/-- The third operand: the features' norms in a row. -/
theorem V_v18 : V m c main_v18 = shapeCast S1x8192 (broadcastInDim S8192x1 ![0] bcast_S8192_S8192x1_0 (Host.reduceAdd (F := F) (mulf (feat m c) (feat m c)) (constant S_ .f32 0x00000000#32) reducesTo_S8192x32_S8192_d1 h_S_)) shapeCasts_S8192x1_S1x8192 := by
  simp only [V, V0, hostOps0, List.flatten_cons, List.flatten_nil, List.append_nil]
  after_results_simp
  rfl
/-- The fourth operand: the codes' norms in a column. -/
theorem V_v16 : V m c main_v16 = broadcastInDim S8192x1 ![0] bcast_S8192_S8192x1_0 (Host.reduceAdd (F := F) (mulf (m ((c : Thread nD τ).loc main_arg3)) (m ((c : Thread nD τ).loc main_arg3))) (constant S_ .f32 0x00000000#32) reducesTo_S8192x32_S8192_d1 h_S_) := by
  simp only [V, V0, hostOps0, List.flatten_cons, List.flatten_nil, List.append_nil]
  after_results_simp
/-- The fifth operand: the gain in a column. -/
theorem V_v19 : V m c main_v19 = shapeCast S32x1 (m ((c : Thread nD τ).loc main_arg4)) shapeCasts_S32_S32x1 := by
  simp only [V, V0, hostOps0, List.flatten_cons, List.flatten_nil, List.append_nil]
  after_results_simp
  rfl
/-- The sixth operand: the offset in a column. -/
theorem V_v20 : V m c main_v20 = shapeCast S32x1 (m ((c : Thread nD τ).loc main_arg5)) shapeCasts_S32_S32x1 := by
  simp only [V, V0, hostOps0, List.flatten_cons, List.flatten_nil, List.append_nil]
  after_results_simp
  rfl
end Cert.Val
-- ==== Proof.Fold.lean ====
module

public import Idealize.ShloMosaic.PureOps.Ideal
public import Idealize.ShloMosaic.PureOps.Ideal.Laws

@[expose] public section

set_option maxRecDepth 16384

noncomputable section
namespace Cert.Val
open Idealize.ShloMosaic

/-- `k` is the first index at which `f` is least. -/
def IsFirst {n : ℕ} (f : Fin n → EReal) (k : Fin n) : Prop :=
  (∀ j, f k ≤ f j) ∧ ∀ j, j < k → f k < f j

/-- The first least index is unique. -/
theorem IsFirst.unique {n : ℕ} {f : Fin n → EReal} {k l : Fin n} (hk : IsFirst f k) (hl : IsFirst f l) : k = l := by
  rcases lt_trichotomy k l with h | h | h
  · exact absurd (hl.2 k h) (not_lt.2 (hk.1 l))
  · exact h
  · exact absurd (hk.2 l h) (not_lt.2 (hl.1 k))

/-- The number of a small word, read signed. -/
theorem toInt_small (n : ℕ) (h : n < 2147483648) : (BitVec.ofNat 32 n).toInt = (n : ℤ) := by
  rw [BitVec.toInt_eq_toNat_of_lt] <;> simp only [BitVec.toNat_ofNat] <;> omega

/-- The reading of small words is injective. -/
theorem ofNat_inj_small {a b : ℕ} (ha : a < 2147483648) (hb : b < 2147483648)
    (h : BitVec.ofNat 32 a = BitVec.ofNat 32 b) : a = b := by
  have := congrArg BitVec.toInt h
  rw [toInt_small a ha, toInt_small b hb] at this
  exact_mod_cast this

/-- The order of (value, word) pairs: the value first, then the word read signed. -/
def PLe (p q : EReal × BitVec 32) : Prop := p.1 < q.1 ∨ (p.1 = q.1 ∧ p.2.toInt ≤ q.2.toInt)

/-- The order on pairs of value and index is reflexive. -/
theorem PLe.refl (p : EReal × BitVec 32) : PLe p p := Or.inr ⟨rfl, le_refl _⟩

/-- The order on pairs of value and index is transitive. -/
theorem PLe.trans {p q r : EReal × BitVec 32} (h : PLe p q) (h' : PLe q r) : PLe p r := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

/-- A fold of a step that picks the smaller of two pairs is a pair of the list (or the start) below all of them. -/
theorem foldl_pick (step : EReal × BitVec 32 → EReal × BitVec 32 → EReal × BitVec 32)
    (hs : ∀ a b, (step a b = a ∨ step a b = b) ∧ PLe (step a b) a ∧ PLe (step a b) b)
    (L : List (EReal × BitVec 32)) : ∀ a, (L.foldl step a = a ∨ L.foldl step a ∈ L) ∧ PLe (L.foldl step a) a ∧
      ∀ p ∈ L, PLe (L.foldl step a) p := by
  induction L with
  | nil => exact fun a => ⟨Or.inl rfl, PLe.refl a, fun p hp => absurd hp List.not_mem_nil⟩
  | cons b L ih =>
    intro a
    obtain ⟨h1, h2, h3⟩ := ih (step a b)
    obtain ⟨g1, g2, g3⟩ := hs a b
    refine ⟨?_, h2.trans g2, ?_⟩
    · rw [List.foldl_cons]
      rcases h1 with h1 | h1
      · rw [h1]
        rcases g1 with g1 | g1
        · exact Or.inl g1
        · right; rw [g1]; exact List.mem_cons_self
      · exact Or.inr (List.mem_cons_of_mem _ h1)
    · intro p hp
      rcases List.mem_cons.1 hp with rfl | hp
      · exact h2.trans g3
      · exact h3 p hp

/-- The fold over a list that holds exactly the pairs `(f k, k)`, from `(⊤, 0)`, has the first least index. -/
theorem foldl_first (step : EReal × BitVec 32 → EReal × BitVec 32 → EReal × BitVec 32)
    (hs : ∀ a b, (step a b = a ∨ step a b = b) ∧ PLe (step a b) a ∧ PLe (step a b) b)
    (f : Fin 8192 → EReal) (L : List (EReal × BitVec 32))
    (hL : ∀ p, p ∈ L ↔ ∃ k : Fin 8192, p = (f k, BitVec.ofNat 32 k.val)) :
    ∃ k : Fin 8192, (L.foldl step ((⊤ : EReal), 0#32)).2 = BitVec.ofNat 32 k.val ∧ IsFirst f k := by
  obtain ⟨h1, h2, h3⟩ := foldl_pick step hs L ((⊤ : EReal), 0#32)
  rcases h1 with h1 | h1
  · refine ⟨0, by rw [h1]; rfl, fun j => ?_, fun j hj => absurd hj (Fin.not_lt_zero j)⟩
    have top : ∀ k : Fin 8192, f k = ⊤ := fun k => by
      have := h3 _ ((hL _).2 ⟨k, rfl⟩)
      rw [h1] at this
      rcases this with h | ⟨h, _⟩
      · exact absurd h not_top_lt
      · exact h.symm
    rw [top, top]
  · obtain ⟨k, hk⟩ := (hL _).1 h1
    have hle : ∀ j : Fin 8192, PLe (f k, BitVec.ofNat 32 k.val) (f j, BitVec.ofNat 32 j.val) := fun j => by
      have := h3 _ ((hL _).2 ⟨j, rfl⟩)
      rwa [hk] at this
    refine ⟨k, by rw [hk], fun j => ?_, fun j hj => ?_⟩
    · rcases hle j with h | ⟨h, _⟩
      · exact le_of_lt h
      · exact le_of_eq h
    · rcases hle j with h | ⟨_, h⟩
      · exact h
      · exfalso
        simp only at h
        rw [toInt_small _ (by omega), toInt_small _ (by omega)] at h
        have := Fin.lt_def.1 hj
        omega

/-- A fold of the signed minimum is one of the words folded, or the start, and is at most each of them. -/
theorem fold_minsi {ι : Type} (s : Finset ι) (b : BitVec 32) (h : ι → BitVec 32) :
    (s.fold IntOp.minsi b h = b ∨ ∃ x ∈ s, s.fold IntOp.minsi b h = h x) ∧
      (s.fold IntOp.minsi b h).toInt ≤ b.toInt ∧ ∀ x ∈ s, (s.fold IntOp.minsi b h).toInt ≤ (h x).toInt := by
  classical
  induction s using Finset.induction_on with
  | empty => exact ⟨Or.inl rfl, le_refl _, fun x hx => absurd hx (Finset.notMem_empty x)⟩
  | insert a s ha ih =>
    obtain ⟨h1, h2, h3⟩ := ih
    rw [Finset.fold_insert ha]
    generalize s.fold IntOp.minsi b h = w at h1 h2 h3
    unfold IntOp.minsi
    by_cases hc : (h a).slt w = true
    · rw [if_pos hc]
      have hlt : (h a).toInt < w.toInt := by simpa [BitVec.slt] using hc
      refine ⟨Or.inr ⟨a, Finset.mem_insert_self a s, rfl⟩, by omega, fun x hx => ?_⟩
      rcases Finset.mem_insert.1 hx with rfl | hx
      · exact le_refl _
      · have := h3 x hx; omega
    · rw [if_neg hc]
      have hge : w.toInt ≤ (h a).toInt := by
        have : ¬ (h a).toInt < w.toInt := by simpa [BitVec.slt] using hc
        omega
      refine ⟨?_, h2, fun x hx => ?_⟩
      · rcases h1 with h1 | ⟨x, hx, h1⟩
        · exact Or.inl h1
        · exact Or.inr ⟨x, Finset.mem_insert_of_mem hx, h1⟩
      · rcases Finset.mem_insert.1 hx with rfl | hx
        · exact hge
        · exact h3 x hx

/-- The least value of a tile's column. -/
def tmin (g : Fin 2048 → EReal) : EReal :=
  Finset.fold min (Ideal.ofBits .f32 0x7F800000#32) g Finset.univ

/-- The word a tile's column offers: the least row number (moved by the tile's offset) at which the value is `m`. -/
def tidx (off : BitVec 32) (g : Fin 2048 → EReal) (m : EReal) : BitVec 32 :=
  Finset.fold IntOp.minsi 2147483647#32
    (fun x => if g x = m then IntOp.addi (BitVec.ofNat 32 x.val) off else 8192#32) Finset.univ

/-- The word of plus infinity denotes plus infinity. -/
theorem ofBits_top : Ideal.ofBits .f32 0x7F800000#32 = ⊤ := by
  simp [Ideal.ofBits, Ideal.ieee]

/-- A tile's minimum is below every entry and is one of them. -/
theorem tmin_spec (g : Fin 2048 → EReal) : (∀ x, tmin g ≤ g x) ∧ ∃ x, g x = tmin g := by
  have hle : ∀ x, tmin g ≤ g x := fun x =>
    (Finset.le_fold_min (tmin g)).1 (le_refl _) |>.2 x (Finset.mem_univ x)
  refine ⟨hle, ?_⟩
  obtain ⟨x, -, hx⟩ := Finset.exists_min_image Finset.univ g ⟨0, Finset.mem_univ 0⟩
  refine ⟨x, le_antisymm ?_ (hle x)⟩
  refine (Finset.le_fold_min (g x)).2 ⟨by rw [ofBits_top]; exact le_top, fun y hy => hx y hy⟩

/-- A tile's index is the first at which its minimum stands, counted from the tile's offset. -/
theorem tidx_spec (off : ℕ) (hoff : off + 2048 ≤ 8192) (g : Fin 2048 → EReal) :
    ∃ x : Fin 2048, tidx (BitVec.ofNat 32 off) g (tmin g) = BitVec.ofNat 32 (off + x.val) ∧ g x = tmin g ∧
      ∀ y, y < x → tmin g < g y := by
  obtain ⟨hle, x0, hx0⟩ := tmin_spec g
  obtain ⟨h1, h2, h3⟩ := fold_minsi Finset.univ 2147483647#32
    (fun x => if g x = tmin g then IntOp.addi (BitVec.ofNat 32 x.val) (BitVec.ofNat 32 off) else 8192#32)
  have hadd : ∀ x : Fin 2048, IntOp.addi (BitVec.ofNat 32 x.val) (BitVec.ofNat 32 off) = BitVec.ofNat 32 (off + x.val) := by
    intro x
    show BitVec.ofNat 32 x.val + BitVec.ofNat 32 off = _
    rw [← BitVec.ofNat_add, Nat.add_comm]
  have hti : ∀ x : Fin 2048, (BitVec.ofNat 32 (off + x.val)).toInt = ((off + x.val : ℕ) : ℤ) :=
    fun x => toInt_small _ (by omega)
  simp only [hadd] at h1 h2 h3
  have hfold : tidx (BitVec.ofNat 32 off) g (tmin g) = Finset.fold IntOp.minsi 2147483647#32
      (fun x => if g x = tmin g then BitVec.ofNat 32 (off + x.val) else 8192#32) Finset.univ := by
    unfold tidx; simp only [hadd]
  rw [← hfold] at h1 h2 h3
  have hx0' := h3 x0 (Finset.mem_univ x0)
  rw [if_pos hx0, hti] at hx0'
  have hb : (2147483647#32 : BitVec 32).toInt = 2147483647 := by decide
  have h8 : (8192#32 : BitVec 32).toInt = 8192 := by decide
  rcases h1 with h1 | ⟨x, -, h1⟩
  · rw [h1, hb] at hx0'; have := x0.isLt; omega
  · by_cases hx : g x = tmin g
    · rw [if_pos hx] at h1
      refine ⟨x, h1, hx, fun y hy => lt_of_le_of_ne (hle y) fun he => ?_⟩
      have := h3 y (Finset.mem_univ y)
      rw [if_pos he.symm, h1, hti, hti] at this
      have := Fin.lt_def.1 hy
      omega
    · rw [if_neg hx] at h1
      rw [h1, h8] at hx0'; have := x0.isLt; omega

/-- What a running minimum `M` with its word `i` says of the first `n` values. -/
def Inv (f : Fin 8192 → EReal) (n : ℕ) (M : EReal) (i : BitVec 32) : Prop :=
  (∀ k : Fin 8192, k.val < n → M ≤ f k) ∧
    ((M = ⊤ ∧ i = 0#32) ∨ ∃ j : Fin 8192, j.val < n ∧ i = BitVec.ofNat 32 j.val ∧ f j = M ∧ ∀ k, k < j → M < f k)

/-- Before the first tile the running pair holds of no entry. -/
theorem Inv.start (f : Fin 8192 → EReal) : Inv f 0 (Ideal.ofBits .f32 0x7F800000#32) 0#32 :=
  ⟨fun k hk => absurd hk (Nat.not_lt_zero _), Or.inl ⟨ofBits_top, rfl⟩⟩

/-- A tile's step keeps it. -/
theorem Inv.step {f : Fin 8192 → EReal} {n : ℕ} {M : EReal} {i : BitVec 32} (h : Inv f n M i) (hn : n + 2048 ≤ 8192)
    (g : Fin 2048 → EReal) (hg : ∀ x : Fin 2048, g x = f ⟨n + x.val, by omega⟩) :
    Inv f (n + 2048) (if tmin g < M then tmin g else M) (if tmin g < M then tidx (BitVec.ofNat 32 n) g (tmin g) else i) := by
  obtain ⟨hle, _⟩ := tmin_spec g
  obtain ⟨x, hx1, hx2, hx3⟩ := tidx_spec n hn g
  have hf : ∀ k : Fin 8192, n ≤ k.val → k.val < n + 2048 → ∃ y : Fin 2048, f k = g y ∧ k.val = n + y.val := by
    intro k h1 h2
    refine ⟨⟨k.val - n, by omega⟩, ?_, by simp only; omega⟩
    rw [hg]; exact congrArg f (Fin.ext (by simp only; omega))
  by_cases hlt : tmin g < M
  · rw [if_pos hlt, if_pos hlt]
    refine ⟨fun k hk => ?_, Or.inr ⟨⟨n + x.val, by omega⟩, by simp only; omega, hx1, by rw [← hg, hx2], fun k hk => ?_⟩⟩
    · by_cases hkn : k.val < n
      · exact (le_of_lt hlt).trans (h.1 k hkn)
      · obtain ⟨y, hy, _⟩ := hf k (by omega) hk
        rw [hy]; exact hle y
    · by_cases hkn : k.val < n
      · exact hlt.trans_le (h.1 k hkn)
      · have hk' := Fin.lt_def.1 hk
        simp only at hk'
        obtain ⟨y, hy, hy'⟩ := hf k (by omega) (by omega)
        rw [hy]; exact hx3 y (Fin.lt_def.2 (by omega))
  · rw [if_neg hlt, if_neg hlt]
    refine ⟨fun k hk => ?_, ?_⟩
    · by_cases hkn : k.val < n
      · exact h.1 k hkn
      · obtain ⟨y, hy, _⟩ := hf k (by omega) hk
        rw [hy]; exact (not_lt.1 hlt).trans (hle y)
    · rcases h.2 with h2 | ⟨j, hj, h2⟩
      · exact Or.inl h2
      · exact Or.inr ⟨j, by omega, h2⟩

/-- A choice by a less-than comparison of two extended reals. -/
theorem select_olt {α : Type} (a b : EReal) (u v : α) :
    Scalar.select (FloatOps.cmpf (F := Ideal) (φ := .f32) .olt a b) u v = if a < b then u else v := by
  rw [Ideal.cmpf_def]; unfold Scalar.select Ideal.cmp; by_cases h : a < b <;> simp [h]

/-- The step with its results as the kernel chooses them. -/
theorem Inv.step_eq {f : Fin 8192 → EReal} {n n' : ℕ} {m M M' : EReal} {c i i' : BitVec 32} (h : Inv f n M i)
    (hn : n + 2048 ≤ 8192) (hn' : n' = n + 2048)
    (g : Fin 2048 → EReal) (hg : ∀ x : Fin 2048, g x = f ⟨n + x.val, by omega⟩) (hm : m = tmin g)
    (hc : c = tidx (BitVec.ofNat 32 n) g m)
    (hM : M' = Scalar.select (FloatOps.cmpf (F := Ideal) (φ := .f32) .olt m M) m M)
    (hi : i' = Scalar.select (FloatOps.cmpf (F := Ideal) (φ := .f32) .olt m M) c i) :
    Inv f n' M' i' := by
  rw [hM, hi, hc, hm, hn', select_olt, select_olt]; exact h.step hn g hg

/-- After all the tiles the word is the first least index. -/
theorem Inv.first {f : Fin 8192 → EReal} {M : EReal} {i : BitVec 32} (h : Inv f 8192 M i) :
    ∃ k : Fin 8192, i = BitVec.ofNat 32 k.val ∧ IsFirst f k := by
  rcases h.2 with ⟨h1, h2⟩ | ⟨j, _, h2, h3, h4⟩
  · refine ⟨0, h2, fun j => ?_, fun j hj => absurd hj (Fin.not_lt_zero j)⟩
    have := h.1 0 (Fin.isLt _)
    rw [h1, top_le_iff] at this
    have := h.1 j j.isLt
    rw [h1, top_le_iff] at this
    simp_all
  · exact ⟨j, h2, fun k => h3 ▸ h.1 k k.isLt, fun k hk => h3 ▸ h4 k hk⟩

end Cert.Val
-- ==== Proof.KerA.lean ====
module

public import proofs.«01_k».proof.Proof.Gen.KernelIdeal.Skeleton
public import proofs.«01_k».proof.Proof.Gen.KernelIdeal.Frame
public import proofs.«01_k».proof.Proof.Fold
public import Idealize.ShloMosaic.Lib.Pointwise

@[expose] public section

set_option maxRecDepth 16384

noncomputable section
namespace Cert.Val
open Idealize.ShloMosaic Idealize.ShloMosaic.Pointwise Cert.KernelIdeal Cert.KernelIdeal.Gen

section Ops
variable {F : FTy → Type} [FloatOps F] [Named F]

/-- A tile's distances, from the tile's codes, the points, the points' norms and the codes' norms. -/
def tileD (sl : FVec F S32x2048 .bf16) (v1 : FVec F S32x1024 .bf16) (v6 : FVec F S1x1024 .f32) (e : FVec F S2048x1 .f32) :
    FVec F S2048x1024 .f32 :=
  addf (subf (broadcastTo S2048x1024 v6 broadcasts_S1x1024_S2048x1024)
      (mulf (broadcast S2048x1024 (Scalar.ofBits .f32 0x40000000#32))
        (matmul dot_S32x2048_S32x1024_S2048x1024_0_0_1_1_n_n none sl v1 (constant S2048x1024 .f32 0x00000000#32))))
    (broadcastTo S2048x1024 e broadcasts_S2048x1_S2048x1024)

/-- A tile's least distances. -/
def tileM (d : FVec F S2048x1024 .f32) : FVec F S1x1024 .f32 :=
  shapeCast S1x1024 (multiReduction .minimumf [0] S1024 d 0x7F800000#32 reduces_S2048x1024_S1024 (.inl rfl) rfl)
    shapeCasts_S1024_S1x1024

/-- A tile's words: the least code number at which the distance is the tile's least. -/
def tileI (off : BitVec 32) (d : FVec F S2048x1024 .f32) (m : FVec F S1x1024 .f32) : IVec S1x1024 32 :=
  shapeCast S1x1024 (multiReductionI .minsi [0] S1024
    (select (cmpf .oeq d (broadcastTo S2048x1024 m broadcasts_S1x1024_S2048x1024))
      (addi (iota .tc S2048x1024 32 [0] iota_S2048x1024_d0_w32) (broadcast S2048x1024 off))
      (broadcast S2048x1024 8192#32)) 2147483647#32 reduces_S2048x1024_S1024 rfl) shapeCasts_S1024_S1x1024

/-- The running least distances after a tile. -/
def runM (m M : FVec F S1x1024 .f32) : FVec F S1x1024 .f32 :=
  select (cmpf .olt m M) (extf .f32 (truncf .bf16 m bitsLt_bf16_f32) bitsLt_bf16_f32) M

/-- The running words after a tile. -/
def runI (m M : FVec F S1x1024 .f32) (c i : IVec S1x1024 32) : IVec S1x1024 32 := select (cmpf .olt m M) c i

/-- A tile's one-hot columns. -/
def hot (off : BitVec 32) (idx : IVec S1x1024 32) : FVec F S2048x1024 .bf16 :=
  truncf .bf16 (sitofp .f32 (extui 32 (cmpi .eq (addi (iota .tc S2048x1024 32 [0] iota_S2048x1024_d0_w32) (broadcast S2048x1024 off))
    (broadcastTo S2048x1024 idx broadcasts_S1x1024_S2048x1024)) natLt_1_32)) bitsLt_bf16_f32

/-- The codes of a tile that its one-hot columns pick. -/
def pick (sl : FVec F S32x2048 .bf16) (h : FVec F S2048x1024 .bf16) : FVec F S32x1024 .f32 :=
  matmul dot_S32x2048_S2048x1024_S32x1024_1_0_0_1_n_n none sl h (constant S32x1024 .f32 0x00000000#32)

/-- The four tiles of a row table. -/
def sl0 (t : FVec F S32x8192 .bf16) : FVec F S32x2048 .bf16 := extractStridedSlice S32x2048 ![0, 0] t slices_S32x8192_o0_0_S32x2048
/-- The second tile of codes. -/
def sl1 (t : FVec F S32x8192 .bf16) : FVec F S32x2048 .bf16 := extractStridedSlice S32x2048 ![0, 2048] t slices_S32x8192_o0_2048_S32x2048
/-- The third tile of codes. -/
def sl2 (t : FVec F S32x8192 .bf16) : FVec F S32x2048 .bf16 := extractStridedSlice S32x2048 ![0, 4096] t slices_S32x8192_o0_4096_S32x2048
/-- The fourth tile of codes. -/
def sl3 (t : FVec F S32x8192 .bf16) : FVec F S32x2048 .bf16 := extractStridedSlice S32x2048 ![0, 6144] t slices_S32x8192_o0_6144_S32x2048

/-- The running values after each tile. -/
def m0 (x : FVec F S32x1024 .bf16) (cb : FVec F S32x8192 .bf16) (n : FVec F S1x1024 .f32) (t : FVec F S2048x1 .f32) := tileM (tileD (sl0 cb) x n t)
/-- The second tile's least distances. -/
def m1 (x : FVec F S32x1024 .bf16) (cb : FVec F S32x8192 .bf16) (n : FVec F S1x1024 .f32) (t : FVec F S2048x1 .f32) := tileM (tileD (sl1 cb) x n t)
/-- The third tile's least distances. -/
def m2 (x : FVec F S32x1024 .bf16) (cb : FVec F S32x8192 .bf16) (n : FVec F S1x1024 .f32) (t : FVec F S2048x1 .f32) := tileM (tileD (sl2 cb) x n t)
/-- The fourth tile's least distances. -/
def m3 (x : FVec F S32x1024 .bf16) (cb : FVec F S32x8192 .bf16) (n : FVec F S1x1024 .f32) (t : FVec F S2048x1 .f32) := tileM (tileD (sl3 cb) x n t)
/-- Where the first tile's least distances stand. -/
def i0 (x : FVec F S32x1024 .bf16) (cb : FVec F S32x8192 .bf16) (n : FVec F S1x1024 .f32) (t : FVec F S2048x1 .f32) := tileI 0#32 (tileD (sl0 cb) x n t) (m0 x cb n t)
/-- Where the second tile's least distances stand. -/
def i1 (x : FVec F S32x1024 .bf16) (cb : FVec F S32x8192 .bf16) (n : FVec F S1x1024 .f32) (t : FVec F S2048x1 .f32) := tileI 2048#32 (tileD (sl1 cb) x n t) (m1 x cb n t)
/-- Where the third tile's least distances stand. -/
def i2 (x : FVec F S32x1024 .bf16) (cb : FVec F S32x8192 .bf16) (n : FVec F S1x1024 .f32) (t : FVec F S2048x1 .f32) := tileI 4096#32 (tileD (sl2 cb) x n t) (m2 x cb n t)
/-- Where the fourth tile's least distances stand. -/
def i3 (x : FVec F S32x1024 .bf16) (cb : FVec F S32x8192 .bf16) (n : FVec F S1x1024 .f32) (t : FVec F S2048x1 .f32) := tileI 6144#32 (tileD (sl3 cb) x n t) (m3 x cb n t)

variable (x0 : Vec F S32x1024 .bf16) (x1 : Vec F S32x8192 .f32) (x2 : Vec F S1x1024 .f32) (x3 : Vec F S8192x1 .f32)
  (x4 : Vec F S32x1 .f32) (x5 : Vec F S32x1 .f32)

/-- The points, the codes, the points' norms as the body reads them. -/
def kx : FVec F S32x1024 .bf16 := k0_pay2 (View.ld x0 r0_0)
/-- The codes as loaded. -/
def kc3 : FVec F S32x8192 .f32 := k0_pay3 (View.ld x1 r0_1)
/-- The codes narrowed. -/
def kc : FVec F S32x8192 .bf16 := k0_pay4 (View.ld x1 r0_1)
/-- The features' norms as loaded. -/
def kn : FVec F S1x1024 .f32 := k0_pay5 (View.ld x2 r0_2)
/-- The first tile of code norms. -/
def e0 : FVec F S2048x1 .f32 := shapeCast S2048x1 (View.ld x3 r0_3) shapeCasts_S2048x1_S2048x1
/-- The second tile of code norms. -/
def e1 : FVec F S2048x1 .f32 := shapeCast S2048x1 (View.ld x3 r0_4) shapeCasts_S2048x1_S2048x1
/-- The third tile of code norms. -/
def e2 : FVec F S2048x1 .f32 := shapeCast S2048x1 (View.ld x3 r0_5) shapeCasts_S2048x1_S2048x1
/-- The fourth tile of code norms. -/
def e3 : FVec F S2048x1 .f32 := shapeCast S2048x1 (View.ld x3 r0_6) shapeCasts_S2048x1_S2048x1

/-- The running minimum after the first tile. -/
def M1 := runM (m0 (kx x0) (kc x1) (kn x2) (e0 x3)) (broadcast S1x1024 (Scalar.ofBits .f32 0x7F800000#32))
/-- The running index after the first tile. -/
def I1 := runI (m0 (kx x0) (kc x1) (kn x2) (e0 x3)) (broadcast S1x1024 (Scalar.ofBits .f32 0x7F800000#32)) (i0 (kx x0) (kc x1) (kn x2) (e0 x3)) (broadcast S1x1024 0#32)
/-- The running minimum after two tiles. -/
def M2 := runM (m1 (kx x0) (kc x1) (kn x2) (e1 x3)) (M1 x0 x1 x2 x3)
/-- The running index after two tiles. -/
def I2 := runI (m1 (kx x0) (kc x1) (kn x2) (e1 x3)) (M1 x0 x1 x2 x3) (i1 (kx x0) (kc x1) (kn x2) (e1 x3)) (I1 x0 x1 x2 x3)
/-- The running minimum after three tiles. -/
def M3 := runM (m2 (kx x0) (kc x1) (kn x2) (e2 x3)) (M2 x0 x1 x2 x3)
/-- The running index after three tiles. -/
def I3 := runI (m2 (kx x0) (kc x1) (kn x2) (e2 x3)) (M2 x0 x1 x2 x3) (i2 (kx x0) (kc x1) (kn x2) (e2 x3)) (I2 x0 x1 x2 x3)
/-- The index after all four tiles. -/
def I4 := runI (m3 (kx x0) (kc x1) (kn x2) (e3 x3)) (M3 x0 x1 x2 x3) (i3 (kx x0) (kc x1) (kn x2) (e3 x3)) (I3 x0 x1 x2 x3)

/-- The printed index after three tiles is the one named here. -/
theorem pay52_eq : k0_pay52 x0 x1 x2 x3 x4 x5 = I3 x0 x1 x2 x3 := rfl
/-- The printed minimum after three tiles is the one named here. -/
theorem pay53_eq : k0_pay53 x0 x1 x2 x3 x4 x5 = M3 x0 x1 x2 x3 := rfl
/-- The printed index after four tiles is the one named here. -/
theorem pay54_eq : k0_pay54 x0 x1 x2 x3 x4 x5 = I4 x0 x1 x2 x3 := rfl

/-- The codes picked by the words `idx`: the three parts of the codes, tile by tile. -/
def quant (hi mid lo : FVec F S32x8192 .bf16) (idx : IVec S1x1024 32) : FVec F S32x1024 .f32 :=
  addf (addf (addf (addf (addf (addf (addf (addf (addf (addf (addf (addf (broadcast S32x1024 (Scalar.ofBits .f32 0x00000000#32))
    (pick (sl0 hi) (hot 0#32 idx))) (pick (sl0 mid) (hot 0#32 idx))) (pick (sl0 lo) (hot 0#32 idx)))
    (pick (sl1 hi) (hot 2048#32 idx))) (pick (sl1 mid) (hot 2048#32 idx))) (pick (sl1 lo) (hot 2048#32 idx)))
    (pick (sl2 hi) (hot 4096#32 idx))) (pick (sl2 mid) (hot 4096#32 idx))) (pick (sl2 lo) (hot 4096#32 idx)))
    (pick (sl3 hi) (hot 6144#32 idx))) (pick (sl3 mid) (hot 6144#32 idx))) (pick (sl3 lo) (hot 6144#32 idx))

/-- The printed gather is the one named here. -/
theorem pay56_eq : k0_pay56 x0 x1 x2 x3 x4 x5
    = quant (k0_pay24 (kc3 x1)) (k0_pay26 (kc3 x1)) (k0_pay27 (kc3 x1)) (I4 x0 x1 x2 x3) := by
  unfold k0_pay56 k0_pay33 k0_pay32 k0_pay29 k0_pay30
  rw [show k0_pay28 (k0_pay45 x0 x1 x2 x3 x4 x5) (k0_pay47 x0 x1 x2 x3 x4 x5) (k0_pay48 x0 x1 x2 x3 x4 x5) (k0_pay52 x0 x1 x2 x3 x4 x5) (k0_pay53 x0 x1 x2 x3 x4 x5) (View.ld x3 r0_6) = hot 0#32 (k0_pay54 x0 x1 x2 x3 x4 x5) from rfl]
  rw [pay54_eq]
  rfl

end Ops
end Cert.Val
-- ==== Proof.KerB.lean ====
module

public import proofs.«01_k».proof.Proof.KerA
public import Idealize.ShloMosaic.Lib.Pointwise

@[expose] public section

set_option maxRecDepth 16384

noncomputable section
namespace Cert.Val
open Idealize.ShloMosaic Idealize.ShloMosaic.Pointwise Cert.KernelIdeal Cert.KernelIdeal.Gen

section Gen
variable {F : FTy → Type} [FloatOps F] [Named F]
/-- The running minimum at an index. -/
theorem runM_at (m M : FVec F S1x1024 .f32) (j : S1x1024.Idx) :
    runM m M j = Scalar.select (FloatOps.cmpf .olt (m j) (M j)) (FloatOps.extf .f32 bitsLt_bf16_f32 (FloatOps.truncf .bf16 bitsLt_bf16_f32 (m j))) (M j) := rfl
/-- The running index at an index. -/
theorem runI_at (m M : FVec F S1x1024 .f32) (c i : IVec S1x1024 32) (j : S1x1024.Idx) :
    runI m M c i j = Scalar.select (FloatOps.cmpf .olt (m j) (M j)) (c j) (i j) := rfl
end Gen

/-- The running minimum at an index, its rounding the identity on extended reals. -/
theorem runM_at' (m M : FVec Ideal S1x1024 .f32) (j : S1x1024.Idx) :
    runM m M j = Scalar.select (FloatOps.cmpf (F := Ideal) (φ := .f32) .olt (m j) (M j)) (m j) (M j) := by
  rw [runM_at]; simp only [Ideal.extf_def, Ideal.truncf_def]

/-- A tile's distances at an index. -/
theorem tileD_at (sl : FVec Ideal S32x2048 .bf16) (x : FVec Ideal S32x1024 .bf16) (n : FVec Ideal S1x1024 .f32) (t : FVec Ideal S2048x1 .f32)
    (r : Fin 2048) (p : Fin 1024) :
    tileD sl x n t (ix2 r p) = n (ix2 0 p) - Ideal.ofBits .f32 0x40000000#32 * (∑ c : Fin 32, sl (ix2 c r) * x (ix2 c p)) + t (ix2 r 0) := by
  pointwise [tileD]

/-- A tile's minimum at an index. -/
theorem tileM_at (d : FVec Ideal S2048x1024 .f32) (p : Fin 1024) : tileM d (ix2 0 p) = tmin (fun r => d (ix2 r p)) := by
  pointwise [tileM]; simp only [tmin]

/-- A tile's index at an index. -/
theorem tileI_at (off : BitVec 32) (d : FVec Ideal S2048x1024 .f32) (m : FVec Ideal S1x1024 .f32) (p : Fin 1024) :
    tileI off d m (ix2 0 p) = tidx off (fun r => d (ix2 r p)) (m (ix2 0 p)) := by
  pointwise [tileI]; simp only [tidx]

/-- The first tile of codes at an index. -/
theorem sl0_at (t : FVec Ideal S32x8192 .bf16) (c : Fin 32) (r : Fin 2048) : sl0 t (ix2 c r) = t (ix2 c ⟨0 + r.val, by omega⟩) := by
  pointwise [sl0]
/-- The second tile of codes at an index. -/
theorem sl1_at (t : FVec Ideal S32x8192 .bf16) (c : Fin 32) (r : Fin 2048) : sl1 t (ix2 c r) = t (ix2 c ⟨2048 + r.val, by omega⟩) := by
  pointwise [sl1]
/-- The third tile of codes at an index. -/
theorem sl2_at (t : FVec Ideal S32x8192 .bf16) (c : Fin 32) (r : Fin 2048) : sl2 t (ix2 c r) = t (ix2 c ⟨4096 + r.val, by omega⟩) := by
  pointwise [sl2]
/-- The fourth tile of codes at an index. -/
theorem sl3_at (t : FVec Ideal S32x8192 .bf16) (c : Fin 32) (r : Fin 2048) : sl3 t (ix2 c r) = t (ix2 c ⟨6144 + r.val, by omega⟩) := by
  pointwise [sl3]

/-- An equality of words read as a float is one or zero. -/
theorem hot_word (a b : BitVec 32) : FloatOps.sitofp (F := Ideal) .f32 (BitVec.setWidth 32 (IntOp.cmpi .eq a b)) = (if a = b then 1 else 0 : EReal) := by
  by_cases h : a = b
  · have e : IntOp.cmpi .eq a b = 1#1 := by simp [IntOp.cmpi, h]
    rw [e, if_pos h]; show ((((1#1 : BitVec 1).setWidth 32).toInt : ℝ) : EReal) = 1; norm_num
  · have e : IntOp.cmpi .eq a b = 0#1 := by
      show BitVec.ofBool (a == b) = 0#1
      rw [beq_eq_false_iff_ne.2 h]; rfl
    rw [e, if_neg h]; show ((((0#1 : BitVec 1).setWidth 32).toInt : ℝ) : EReal) = 0; norm_num

/-- The one-hot matrix at an index. -/
theorem hot_at (off : BitVec 32) (idx : IVec S1x1024 32) (r : Fin 2048) (p : Fin 1024) :
    hot (F := Ideal) off idx (ix2 r p) = if IntOp.addi (BitVec.ofNat 32 r.val) off = idx (ix2 0 p) then 1 else 0 := by
  pointwise [hot]; exact hot_word _ _

/-- The product with a one-hot matrix at an index. -/
theorem pick_at (sl : FVec Ideal S32x2048 .bf16) (h : FVec Ideal S2048x1024 .bf16) (c : Fin 32) (p : Fin 1024) :
    pick sl h (ix2 c p) = ∑ r : Fin 2048, sl (ix2 c r) * h (ix2 r p) := by
  pointwise [pick]

variable (x0 : Vec Ideal S32x1024 .bf16) (x1 : Vec Ideal S32x8192 .f32) (x2 : Vec Ideal S1x1024 .f32) (x3 : Vec Ideal S8192x1 .f32)

/-- The features as loaded, at an index. -/
theorem kx_at (c : Fin 32) (p : Fin 1024) : kx x0 (ix2 c p) = x0 (ix2 c p) := by
  pointwise [kx, k0_pay2]
/-- The narrowed codes at an index. -/
theorem kc_at (c : Fin 32) (k : Fin 8192) : kc x1 (ix2 c k) = x1 (ix2 c k) := by
  pointwise [kc, k0_pay4, k0_pay3]
/-- The features' norms at an index. -/
theorem kn_at (p : Fin 1024) : kn x2 (ix2 0 p) = x2 (ix2 0 p) := by
  pointwise [kn, k0_pay5]
/-- The first tile of code norms at an index. -/
theorem e0_at (r : Fin 2048) : e0 x3 (ix2 r 0) = x3 (ix2 ⟨0 + r.val, by omega⟩ 0) := by
  pointwise [e0]
/-- The second tile of code norms at an index. -/
theorem e1_at (r : Fin 2048) : e1 x3 (ix2 r 0) = x3 (ix2 ⟨2048 + r.val, by omega⟩ 0) := by
  pointwise [e1]
/-- The third tile of code norms at an index. -/
theorem e2_at (r : Fin 2048) : e2 x3 (ix2 r 0) = x3 (ix2 ⟨4096 + r.val, by omega⟩ 0) := by
  pointwise [e2]
/-- The fourth tile of code norms at an index. -/
theorem e3_at (r : Fin 2048) : e3 x3 (ix2 r 0) = x3 (ix2 ⟨6144 + r.val, by omega⟩ 0) := by
  pointwise [e3]
/-- The code's first part is the code. -/
theorem hi_at (c : Fin 32) (k : Fin 8192) : k0_pay24 (kc3 x1) (ix2 c k) = x1 (ix2 c k) := by
  pointwise [k0_pay24, kc3, k0_pay3]
/-- The code's second part is the code less itself. -/
theorem mid_at (c : Fin 32) (k : Fin 8192) : k0_pay26 (kc3 x1) (ix2 c k) = x1 (ix2 c k) - x1 (ix2 c k) := by
  pointwise [k0_pay26, k0_pay25, k0_pay24, kc3, k0_pay3]
/-- The code's third part is the second less itself. -/
theorem lo_at (c : Fin 32) (k : Fin 8192) : k0_pay27 (kc3 x1) (ix2 c k) = (x1 (ix2 c k) - x1 (ix2 c k)) - (x1 (ix2 c k) - x1 (ix2 c k)) := by
  pointwise [k0_pay27, k0_pay26, k0_pay25, k0_pay24, kc3, k0_pay3]

/-- The distance the kernel computes from the point `p` to the code `k`. -/
def kdist (p : Fin 1024) (k : Fin 8192) : EReal :=
  x2 (ix2 0 p) - Ideal.ofBits .f32 0x40000000#32 * (∑ c : Fin 32, x1 (ix2 c k) * x0 (ix2 c p)) + x3 (ix2 k 0)

/-- The first tile's distances are those of its codes. -/
theorem d0_at (r : Fin 2048) (p : Fin 1024) : tileD (sl0 (kc x1)) (kx x0) (kn x2) (e0 x3) (ix2 r p) = kdist x0 x1 x2 x3 p ⟨0 + r.val, by omega⟩ := by
  rw [tileD_at, e0_at, kn_at]; simp only [sl0_at, kc_at, kx_at, kdist]
/-- The second tile's distances are those of its codes. -/
theorem d1_at (r : Fin 2048) (p : Fin 1024) : tileD (sl1 (kc x1)) (kx x0) (kn x2) (e1 x3) (ix2 r p) = kdist x0 x1 x2 x3 p ⟨2048 + r.val, by omega⟩ := by
  rw [tileD_at, e1_at, kn_at]; simp only [sl1_at, kc_at, kx_at, kdist]
/-- The third tile's distances are those of its codes. -/
theorem d2_at (r : Fin 2048) (p : Fin 1024) : tileD (sl2 (kc x1)) (kx x0) (kn x2) (e2 x3) (ix2 r p) = kdist x0 x1 x2 x3 p ⟨4096 + r.val, by omega⟩ := by
  rw [tileD_at, e2_at, kn_at]; simp only [sl2_at, kc_at, kx_at, kdist]
/-- The fourth tile's distances are those of its codes. -/
theorem d3_at (r : Fin 2048) (p : Fin 1024) : tileD (sl3 (kc x1)) (kx x0) (kn x2) (e3 x3) (ix2 r p) = kdist x0 x1 x2 x3 p ⟨6144 + r.val, by omega⟩ := by
  rw [tileD_at, e3_at, kn_at]; simp only [sl3_at, kc_at, kx_at, kdist]

/-- After the first tile the running least distance and its word are those of the first 2048 codes. -/
theorem inv1 (p : Fin 1024) : Inv (kdist x0 x1 x2 x3 p) 2048 (M1 x0 x1 x2 x3 (ix2 0 p)) (I1 x0 x1 x2 x3 (ix2 0 p)) :=
  (Inv.start (kdist x0 x1 x2 x3 p)).step_eq (by norm_num) (by norm_num) _ (fun r => d0_at x0 x1 x2 x3 r p)
    (tileM_at _ p) (tileI_at _ _ _ p) (runM_at' _ _ _) (runI_at _ _ _ _ _)
/-- The running pair after two tiles. -/
theorem inv2 (p : Fin 1024) : Inv (kdist x0 x1 x2 x3 p) 4096 (M2 x0 x1 x2 x3 (ix2 0 p)) (I2 x0 x1 x2 x3 (ix2 0 p)) :=
  (inv1 x0 x1 x2 x3 p).step_eq (by norm_num) (by norm_num) _ (fun r => d1_at x0 x1 x2 x3 r p)
    (tileM_at _ p) (tileI_at _ _ _ p) (runM_at' _ _ _) (runI_at _ _ _ _ _)
/-- The running pair after three tiles. -/
theorem inv3 (p : Fin 1024) : Inv (kdist x0 x1 x2 x3 p) 6144 (M3 x0 x1 x2 x3 (ix2 0 p)) (I3 x0 x1 x2 x3 (ix2 0 p)) :=
  (inv2 x0 x1 x2 x3 p).step_eq (by norm_num) (by norm_num) _ (fun r => d2_at x0 x1 x2 x3 r p)
    (tileM_at _ p) (tileI_at _ _ _ p) (runM_at' _ _ _) (runI_at _ _ _ _ _)
/-- The running pair after all four tiles. -/
theorem inv4 (p : Fin 1024) : ∃ M, Inv (kdist x0 x1 x2 x3 p) 8192 M (I4 x0 x1 x2 x3 (ix2 0 p)) :=
  ⟨_, (inv3 x0 x1 x2 x3 p).step_eq (by norm_num) (by norm_num) _ (fun r => d3_at x0 x1 x2 x3 r p)
    (tileM_at _ p) (tileI_at _ _ _ p) rfl (runI_at _ _ _ _ _)⟩

/-- The kernel's word for the point `p` is the first code nearest to it. -/
theorem kidx (p : Fin 1024) : ∃ k : Fin 8192, I4 x0 x1 x2 x3 (ix2 0 p) = BitVec.ofNat 32 k.val ∧ IsFirst (kdist x0 x1 x2 x3 p) k :=
  (inv4 x0 x1 x2 x3 p).elim fun _ h => h.first

/-- A tile's pick: the code `k`'s value if the tile holds it, zero if not. -/
theorem pick_sum (t : Fin 8192 → EReal) (k : Fin 8192) (n : ℕ) (hn : n + 2048 ≤ 8192) :
    (∑ r : Fin 2048, t ⟨n + r.val, by omega⟩ * (if IntOp.addi (BitVec.ofNat 32 r.val) (BitVec.ofNat 32 n) = BitVec.ofNat 32 k.val then 1 else 0 : EReal))
      = if n ≤ k.val ∧ k.val < n + 2048 then t k else 0 := by
  have hw : ∀ r : Fin 2048, (IntOp.addi (BitVec.ofNat 32 r.val) (BitVec.ofNat 32 n) = BitVec.ofNat 32 k.val) ↔ n + r.val = k.val := by
    intro r
    have e : IntOp.addi (BitVec.ofNat 32 r.val) (BitVec.ofNat 32 n) = BitVec.ofNat 32 (n + r.val) := by
      show BitVec.ofNat 32 r.val + BitVec.ofNat 32 n = _
      rw [← BitVec.ofNat_add, Nat.add_comm]
    rw [e]
    exact ⟨fun h => ofNat_inj_small (by omega) (by omega) h, fun h => by rw [h]⟩
  simp only [hw]
  by_cases h : n ≤ k.val ∧ k.val < n + 2048
  · rw [if_pos h, Finset.sum_eq_single (⟨k.val - n, by omega⟩ : Fin 2048)]
    · rw [if_pos (by simp only; omega), mul_one]
      exact congrArg t (Fin.ext (by simp only; omega))
    · intro r _ hr
      rw [if_neg (fun he => hr (Fin.ext (by simp only; omega))), mul_zero]
    · exact fun h => absurd (Finset.mem_univ _) h
  · rw [if_neg h]
    refine Finset.sum_eq_zero fun r _ => ?_
    rw [if_neg (fun he => h (by omega)), mul_zero]

/-- The gather out of the first tile. -/
theorem pk0 (t : FVec Ideal S32x8192 .bf16) (idx : IVec S1x1024 32) (c : Fin 32) (p : Fin 1024) (k : Fin 8192) (hk : idx (ix2 0 p) = BitVec.ofNat 32 k.val) :
    pick (sl0 t) (hot 0#32 idx) (ix2 c p) = if 0 ≤ k.val ∧ k.val < 0 + 2048 then t (ix2 c k) else 0 := by
  rw [pick_at]; simp only [sl0_at, hot_at, hk]; exact pick_sum (fun k => t (ix2 c k)) k 0 (by norm_num)
/-- The gather out of the second tile. -/
theorem pk1 (t : FVec Ideal S32x8192 .bf16) (idx : IVec S1x1024 32) (c : Fin 32) (p : Fin 1024) (k : Fin 8192) (hk : idx (ix2 0 p) = BitVec.ofNat 32 k.val) :
    pick (sl1 t) (hot 2048#32 idx) (ix2 c p) = if 2048 ≤ k.val ∧ k.val < 2048 + 2048 then t (ix2 c k) else 0 := by
  rw [pick_at]; simp only [sl1_at, hot_at, hk]; exact pick_sum (fun k => t (ix2 c k)) k 2048 (by norm_num)
/-- The gather out of the third tile. -/
theorem pk2 (t : FVec Ideal S32x8192 .bf16) (idx : IVec S1x1024 32) (c : Fin 32) (p : Fin 1024) (k : Fin 8192) (hk : idx (ix2 0 p) = BitVec.ofNat 32 k.val) :
    pick (sl2 t) (hot 4096#32 idx) (ix2 c p) = if 4096 ≤ k.val ∧ k.val < 4096 + 2048 then t (ix2 c k) else 0 := by
  rw [pick_at]; simp only [sl2_at, hot_at, hk]; exact pick_sum (fun k => t (ix2 c k)) k 4096 (by norm_num)
/-- The gather out of the fourth tile. -/
theorem pk3 (t : FVec Ideal S32x8192 .bf16) (idx : IVec S1x1024 32) (c : Fin 32) (p : Fin 1024) (k : Fin 8192) (hk : idx (ix2 0 p) = BitVec.ofNat 32 k.val) :
    pick (sl3 t) (hot 6144#32 idx) (ix2 c p) = if 6144 ≤ k.val ∧ k.val < 6144 + 2048 then t (ix2 c k) else 0 := by
  rw [pick_at]; simp only [sl3_at, hot_at, hk]; exact pick_sum (fun k => t (ix2 c k)) k 6144 (by norm_num)

/-- The gathered code at an index, as the sum of the tiles' parts. -/
theorem quant_read (hi mid lo : FVec Ideal S32x8192 .bf16) (idx : IVec S1x1024 32) (j : S32x1024.Idx) :
    quant hi mid lo idx j = 0 +
    pick (sl0 hi) (hot 0#32 idx) j + pick (sl0 mid) (hot 0#32 idx) j + pick (sl0 lo) (hot 0#32 idx) j +
    pick (sl1 hi) (hot 2048#32 idx) j + pick (sl1 mid) (hot 2048#32 idx) j + pick (sl1 lo) (hot 2048#32 idx) j +
    pick (sl2 hi) (hot 4096#32 idx) j + pick (sl2 mid) (hot 4096#32 idx) j + pick (sl2 lo) (hot 4096#32 idx) j +
    pick (sl3 hi) (hot 6144#32 idx) j + pick (sl3 mid) (hot 6144#32 idx) j + pick (sl3 lo) (hot 6144#32 idx) j := by
  pointwise [quant]

/-- With finite codes the kernel's pick is the code its word names. -/
theorem quant_at (idx : IVec S1x1024 32) (c : Fin 32) (p : Fin 1024) (k : Fin 8192) (hk : idx (ix2 0 p) = BitVec.ofNat 32 k.val)
    (hfin : ∃ r : ℝ, x1 (ix2 c k) = (r : EReal)) :
    quant (k0_pay24 (kc3 x1)) (k0_pay26 (kc3 x1)) (k0_pay27 (kc3 x1)) idx (ix2 c p) = x1 (ix2 c k) := by
  obtain ⟨r, hr⟩ := hfin
  have z : (r : EReal) - (r : EReal) = 0 := by rw [← EReal.coe_sub, sub_self, EReal.coe_zero]
  rw [quant_read, pk0 _ idx c p k hk, pk0 _ idx c p k hk, pk0 _ idx c p k hk, pk1 _ idx c p k hk, pk1 _ idx c p k hk, pk1 _ idx c p k hk,
    pk2 _ idx c p k hk, pk2 _ idx c p k hk, pk2 _ idx c p k hk, pk3 _ idx c p k hk, pk3 _ idx c p k hk, pk3 _ idx c p k hk,
    hi_at, mid_at, lo_at, hr, z, sub_zero]
  have hlt := k.isLt
  simp only [sub_zero, ite_self, add_zero, zero_add]
  by_cases a0 : k.val < 2048
  · rw [if_pos (show (0 ≤ k.val ∧ k.val < 0 + 2048) by omega), if_neg (show ¬ (2048 ≤ k.val ∧ k.val < 2048 + 2048) by omega), if_neg (show ¬ (4096 ≤ k.val ∧ k.val < 4096 + 2048) by omega), if_neg (show ¬ (6144 ≤ k.val ∧ k.val < 6144 + 2048) by omega)]; simp only [add_zero, zero_add]
  by_cases a1 : k.val < 4096
  · rw [if_neg (show ¬ (0 ≤ k.val ∧ k.val < 0 + 2048) by omega), if_pos (show (2048 ≤ k.val ∧ k.val < 2048 + 2048) by omega), if_neg (show ¬ (4096 ≤ k.val ∧ k.val < 4096 + 2048) by omega), if_neg (show ¬ (6144 ≤ k.val ∧ k.val < 6144 + 2048) by omega)]; simp only [add_zero, zero_add]
  by_cases a2 : k.val < 6144
  · rw [if_neg (show ¬ (0 ≤ k.val ∧ k.val < 0 + 2048) by omega), if_neg (show ¬ (2048 ≤ k.val ∧ k.val < 2048 + 2048) by omega), if_pos (show (4096 ≤ k.val ∧ k.val < 4096 + 2048) by omega), if_neg (show ¬ (6144 ≤ k.val ∧ k.val < 6144 + 2048) by omega)]; simp only [add_zero, zero_add]
  · rw [if_neg (show ¬ (0 ≤ k.val ∧ k.val < 0 + 2048) by omega), if_neg (show ¬ (2048 ≤ k.val ∧ k.val < 2048 + 2048) by omega), if_neg (show ¬ (4096 ≤ k.val ∧ k.val < 4096 + 2048) by omega), if_pos (show (6144 ≤ k.val ∧ k.val < 6144 + 2048) by omega)]; simp only [add_zero, zero_add]

end Cert.Val
-- ==== Proof.Spec.lean ====
module

public import Idealize.ShloMosaic.PureOps.Ideal
public import Idealize.ShloMosaic.PureOps.Ideal.Laws
public import Idealize.ShloMosaic.Lib.IdealHost

@[expose] public section

set_option maxRecDepth 16384

noncomputable section
namespace Cert.Val
open Idealize.ShloMosaic

/-- A row or column number on the circle: `(n + 1) / (32 + ε) · 2 · π`, in the program's words. -/
def tick (n : ℕ) : EReal :=
  Ideal.div (((n + 1 : ℕ) : ℝ) : EReal) (Ideal.ofBits .f32 1107296256#32 + Ideal.ofBits .f32 897988541#32) *
    Ideal.ofBits .f32 1073741824#32 * Ideal.ofBits .f32 1078530011#32

/-- The exponent `2 ⌊m / 2⌋ / 16` of the channel `m`. -/
def expo (m : ℕ) : EReal :=
  Ideal.div (Ideal.ofBits .f32 1073741824#32 *
    Ideal.liftRound Int.floor (Ideal.div (((m : ℕ) : ℝ) : EReal) (Ideal.ofBits .f32 1073741824#32))) (Ideal.ofBits .f32 1098907648#32)

/-- The divisor `10000 ^ (2 ⌊m / 2⌋ / 16)` of the channel `m`. -/
def den (m : ℕ) : EReal := Ideal.pow (Ideal.ofBits .f32 1176256512#32) (expo m)

/-- The positional encoding of the channel `c` at the point `p` of the 32 × 32 grid. -/
def penc (c p : ℕ) : EReal :=
  if c % 2 = 0 then Ideal.sin (Ideal.div (if c < 16 then tick (p / 32) else tick (p % 32)) (den (c % 16)))
  else Ideal.cos (Ideal.div (if c < 16 then tick (p / 32) else tick (p % 32)) (den (c % 16)))

/-- The mean of the 32 channels. -/
def mean (v : Fin 32 → EReal) : EReal := Ideal.div (∑ c, v c) (Ideal.ofBits .f32 1107296256#32)

/-- The normalized channel, scaled and shifted. -/
def lnorm (v : Fin 32 → EReal) (g e : EReal) (c : Fin 32) : EReal :=
  Ideal.div (v c - mean v) (Ideal.sqrt (Ideal.div (∑ x, (v x - mean v) * (v x - mean v)) (Ideal.ofBits .f32 1107296256#32)
    + Ideal.ofBits .f32 925353388#32)) * g + e

/-- The word of 2. -/
theorem w2 : Ideal.ofBits .f32 1073741824#32 = ((2 : ℝ) : EReal) := by
  simp [Ideal.ofBits, Ideal.ieee]; rw [← EReal.coe_mul]; norm_num
/-- The word of 16. -/
theorem w16 : Ideal.ofBits .f32 1098907648#32 = ((16 : ℝ) : EReal) := by
  simp [Ideal.ofBits, Ideal.ieee]; rw [← EReal.coe_mul]; norm_num
/-- The word of 32. -/
theorem w32 : Ideal.ofBits .f32 1107296256#32 = ((32 : ℝ) : EReal) := by
  simp [Ideal.ofBits, Ideal.ieee]; rw [← EReal.coe_mul]; norm_num
/-- The word of 10000. -/
theorem w10000 : Ideal.ofBits .f32 1176256512#32 = ((10000 : ℝ) : EReal) := by
  simp [Ideal.ofBits, Ideal.ieee]; rw [← EReal.coe_mul]; norm_num
/-- Twice the word of pi is the word of twice it. -/
theorem w2pi : Ideal.ofBits .f32 1073741824#32 * Ideal.ofBits .f32 1078530011#32 = Ideal.ofBits .f32 1086918619#32 := by
  rw [w2]
  simp [Ideal.ofBits, Ideal.ieee]
  repeat rw [← EReal.coe_mul]
  norm_num

/-- The exponent is a real number. -/
theorem expo_real (m : ℕ) : ∃ r : ℝ, expo m = (r : EReal) := by
  unfold expo
  rw [w2, w16, Ideal.div_coe (by norm_num), Ideal.div_coe (by norm_num), ← EReal.coe_mul, Ideal.liftRound_coe, ← EReal.coe_mul, ← EReal.coe_mul]
  exact ⟨_, rfl⟩

/-- The power is the exponential of the exponent times the logarithm of the base. -/
theorem exp_expo (m : ℕ) : Ideal.exp (expo m * ((Real.log 10000 : ℝ) : EReal)) = den m := by
  obtain ⟨r, hr⟩ := expo_real m
  unfold den
  rw [hr, w10000, Ideal.pow_coe_coe, ← EReal.coe_mul, Ideal.exp_coe]
  congr 1
  show Real.exp (r * Real.log 10000) = (10000 : ℝ) ^ r
  rw [Real.rpow_def_of_pos (by norm_num), mul_comm]

end Cert.Val
-- ==== Proof.KerC.lean ====
module

public import proofs.«01_k».proof.Proof.KerA
public import proofs.«01_k».proof.Proof.Spec
public import Idealize.ShloMosaic.Lib.Pointwise

@[expose] public section

set_option maxRecDepth 16384

noncomputable section
namespace Cert.Val
open Idealize.ShloMosaic Idealize.ShloMosaic.Pointwise Cert.KernelIdeal Cert.KernelIdeal.Gen

/-- A patch's row. -/
theorem p34 (p : Fin 1024) : k0_pay34 (ix2 0 p) = BitVec.ofNat 32 (p.val / 32) := by
  pointwise [k0_pay34]
  revert p; decide +kernel
/-- A patch's column. -/
theorem p35 (p : Fin 1024) : k0_pay35 (ix2 0 p) = BitVec.ofNat 32 (p.val % 32) := by
  pointwise [k0_pay35]
  revert p; decide +kernel
/-- A channel's place in its half. -/
theorem p39 (c : Fin 32) : k0_pay39 (ix2 c 0) = BitVec.ofNat 32 (c.val % 16) := by
  pointwise [k0_pay39]
  revert c; decide +kernel

/-- A small word read as a number. -/
theorem word_real (w : BitVec 32) (n : ℕ) (h : w.toInt = n) : FloatOps.sitofp (F := Ideal) .f32 w = (((n : ℕ) : ℝ) : EReal) := by
  show ((w.toInt : ℝ) : EReal) = _
  rw [h]; rfl

/-- A small word plus one, read as an integer. -/
theorem add_one_toInt (n : ℕ) (h : n < 100) : (IntOp.addi (BitVec.ofNat 32 n) 1#32).toInt = ((n + 1 : ℕ) : ℤ) := by
  have : ∀ n : Fin 100, (IntOp.addi (BitVec.ofNat 32 n.val) 1#32).toInt = ((n.val + 1 : ℕ) : ℤ) := by decide +kernel
  exact this ⟨n, h⟩

/-- The row angle, the column angle, the channel numbers, the exponents and the logarithm as the kernel holds them. -/
theorem p58 (p : Fin 1024) : k0_pay37 (F := Ideal) k0_pay34 k0_pay36 (ix2 0 p) = tick (p.val / 32) := by
  pointwise [k0_pay37, k0_pay36]
  rw [p34, word_real _ _ (add_one_toInt _ (by omega)), tick, mul_assoc, w2pi]
/-- The column's angle. -/
theorem p59 (p : Fin 1024) : k0_pay38 (F := Ideal) k0_pay35 (ix2 0 p) = tick (p.val % 32) := by
  pointwise [k0_pay38]
  rw [p35, word_real _ _ (add_one_toInt _ (by omega)), tick, mul_assoc, w2pi]
/-- A channel's exponent. -/
theorem p61 (c : Fin 32) : k0_pay40 (F := Ideal) (ix2 c 0) = expo (c.val % 16) := by
  pointwise [k0_pay40]
  rw [p39, word_real _ (c.val % 16) (by revert c; decide +kernel), expo]
/-- The named base of the exponential is the logarithm of 10000. -/
theorem p62 (c : Fin 32) : k0_pay41 (F := Ideal) (ix2 c 0) = ((Real.log 10000 : ℝ) : EReal) := by
  pointwise [k0_pay41]
  exact IdealRules.named_const.ideal_named_scalar _ _ _ _ rfl

/-- The word test the kernel makes of a channel number: one for the even, zero for the odd. -/
theorem par (c : Fin 32) : (IntOp.cmpi CmpIPredicate.eq
          (Scalar.select
            (IntOp.andi
              (IntOp.xori
                (IntOp.cmpi CmpIPredicate.slt
                  (IntOp.remsi ArithUnit.vector (BitVec.ofNat 32 (c.val % 16))
                    (Scalar.select (Scalar.cmpi CmpIPredicate.eq 2#32 0#32) 1#32 2#32))
                  0#32)
                (Scalar.cmpi CmpIPredicate.slt (Scalar.select (Scalar.cmpi CmpIPredicate.eq 2#32 0#32) 1#32 2#32) 0#32))
              (IntOp.cmpi CmpIPredicate.ne
                (IntOp.remsi ArithUnit.vector (BitVec.ofNat 32 (c.val % 16))
                  (Scalar.select (Scalar.cmpi CmpIPredicate.eq 2#32 0#32) 1#32 2#32))
                0#32))
            (IntOp.addi
              (IntOp.remsi ArithUnit.vector (BitVec.ofNat 32 (c.val % 16))
                (Scalar.select (Scalar.cmpi CmpIPredicate.eq 2#32 0#32) 1#32 2#32))
              (Scalar.select (Scalar.cmpi CmpIPredicate.eq 2#32 0#32) 1#32 2#32))
            (IntOp.remsi ArithUnit.vector (BitVec.ofNat 32 (c.val % 16))
              (Scalar.select (Scalar.cmpi CmpIPredicate.eq 2#32 0#32) 1#32 2#32)))
          0#32) = if c.val % 2 = 0 then 1#1 else 0#1 := by
  revert c; decide +kernel

/-- A code's channel with the positional encoding added. -/
theorem p42 (q : FVec Ideal S32x1024 .f32) (c : Fin 32) (p : Fin 1024) :
    k0_pay42 (F := Ideal) q (k0_pay37 k0_pay34 k0_pay36) (k0_pay38 k0_pay35) (iota .tc S32x1 32 [0] iota_S32x1_d0_w32) k0_pay39 k0_pay40 k0_pay41 (ix2 c p) = q (ix2 c p) + penc c p := by
  pointwise [k0_pay42]
  rw [p58, p59, p61, p62, exp_expo, p39]
  have h16 : ∀ c : Fin 32, IntOp.cmpi CmpIPredicate.slt (BitVec.ofNat 32 c.val) 16#32 = if c.val < 16 then 1#1 else 0#1 := by decide +kernel
  rw [h16]
  have hs : Scalar.select (if c.val < 16 then 1#1 else 0#1) (tick (p.val / 32)) (tick (p.val % 32)) = if c.val < 16 then tick (p.val / 32) else tick (p.val % 32) := by
    split <;> rfl
  rw [hs, penc, par]
  by_cases h : c.val % 2 = 0
  · rw [if_pos h, if_pos h]; rfl
  · rw [if_neg h, if_neg h]; rfl

/-- The kernel's sum of code and encoding, a block of it. -/
def kadd (q : FVec Ideal S32x1024 .f32) : FVec Ideal S32x1024 .f32 :=
  k0_pay42 (F := Ideal) q (k0_pay37 k0_pay34 k0_pay36) (k0_pay38 k0_pay35) (iota .tc S32x1 32 [0] iota_S32x1_d0_w32) k0_pay39 k0_pay40 k0_pay41

/-- Its mean over the channels. -/
def kmean (q : FVec Ideal S32x1024 .f32) : FVec Ideal S1x1024 .f32 :=
  k0_pay43 (F := Ideal) q (k0_pay37 k0_pay34 k0_pay36) (k0_pay38 k0_pay35) (iota .tc S32x1 32 [0] iota_S32x1_d0_w32) k0_pay39 k0_pay40 k0_pay41

/-- Its variance over the channels. -/
def kvar (q : FVec Ideal S32x1024 .f32) : FVec Ideal S1x1024 .f32 :=
  k0_pay44 (F := Ideal) q (k0_pay37 k0_pay34 k0_pay36) (k0_pay38 k0_pay35) (iota .tc S32x1 32 [0] iota_S32x1_d0_w32) k0_pay39 k0_pay40 k0_pay41

/-- The 32 channels of a point, code and encoding. -/
def chan (q : FVec Ideal S32x1024 .f32) (p : Fin 1024) (c : Fin 32) : EReal := q (ix2 c p) + penc c p

/-- The gathered code plus the encoding, at an index. -/
theorem kadd_at (q : FVec Ideal S32x1024 .f32) (c : Fin 32) (p : Fin 1024) : kadd q (ix2 c p) = chan q p c := p42 q c p

/-- The channels' mean for any operands. -/
theorem p43 (q : FVec Ideal S32x1024 .f32) (ye xe : FVec Ideal S1x1024 .f32) (v245 v261 : IVec S32x1 32) (ex lb : FVec Ideal S32x1 .f32) (p : Fin 1024) :
    k0_pay43 (F := Ideal) q ye xe v245 v261 ex lb (ix2 0 p) = Ideal.div (∑ x, k0_pay42 (F := Ideal) q ye xe v245 v261 ex lb (ix2 x p)) (Ideal.ofBits .f32 1107296256#32) := by
  pointwise [k0_pay43]
/-- The channels' variance for any operands. -/
theorem p44 (q : FVec Ideal S32x1024 .f32) (ye xe : FVec Ideal S1x1024 .f32) (v245 v261 : IVec S32x1 32) (ex lb : FVec Ideal S32x1 .f32) (p : Fin 1024) :
    k0_pay44 (F := Ideal) q ye xe v245 v261 ex lb (ix2 0 p) = Ideal.div (∑ x, (k0_pay42 (F := Ideal) q ye xe v245 v261 ex lb (ix2 x p) - k0_pay43 (F := Ideal) q ye xe v245 v261 ex lb (ix2 0 p)) * (k0_pay42 (F := Ideal) q ye xe v245 v261 ex lb (ix2 x p) - k0_pay43 (F := Ideal) q ye xe v245 v261 ex lb (ix2 0 p))) (Ideal.ofBits .f32 1107296256#32) := by
  pointwise [k0_pay44]

/-- The channels' mean at a patch. -/
theorem kmean_at (q : FVec Ideal S32x1024 .f32) (p : Fin 1024) : kmean q (ix2 0 p) = mean (chan q p) := by
  unfold kmean
  rw [p43]
  exact congrArg (fun s => Ideal.div s _) (Finset.sum_congr rfl fun x _ => p42 q x p)
/-- The channels' variance at a patch. -/
theorem kvar_at (q : FVec Ideal S32x1024 .f32) (p : Fin 1024) : kvar q (ix2 0 p) =
    Ideal.div (∑ x, (chan q p x - mean (chan q p)) * (chan q p x - mean (chan q p))) (Ideal.ofBits .f32 1107296256#32) := by
  unfold kvar
  rw [p44]
  have h := kmean_at q p
  unfold kmean at h
  refine congrArg (fun s => Ideal.div s _) (Finset.sum_congr rfl fun x _ => ?_)
  rw [h, p42]; rfl

/-- The block the kernel leaves: the normalized channels. -/
theorem p1 (q : FVec Ideal S32x1024 .f32) (g b : Vec Ideal S32x1 .f32) (c : Fin 32) (p : Fin 1024) :
    k0_pay1 (F := Ideal) (kadd q) (kmean q) (kvar q) g b (ix2 c p) = lnorm (chan q p) (g (ix2 c 0)) (b (ix2 c 0)) c := by
  pointwise [k0_pay1]
  rw [kadd_at, kmean_at, kvar_at]; rfl

end Cert.Val
-- ==== Proof.KerD.lean ====
module

public import proofs.«01_k».proof.Proof.KerB
public import proofs.«01_k».proof.Proof.KerC
public import Idealize.ShloMosaic.Lib.Pipeline.ValueKit

@[expose] public section

set_option maxRecDepth 16384

noncomputable section
namespace Cert.Val
open Idealize.ShloMosaic Idealize.ShloMosaic.Pointwise Cert.KernelIdeal Cert.KernelIdeal.Gen

/-- The normalized block over a picked block, its parts named (at any format family). -/
theorem pay1_eq (x0 : Vec Ideal S32x1024 .bf16) (x1 : Vec Ideal S32x8192 .f32) (x2 : Vec Ideal S1x1024 .f32) (x3 : Vec Ideal S8192x1 .f32) (x4 x5 : Vec Ideal S32x1 .f32)
    (q : FVec Ideal S32x1024 .f32) (g b : Vec Ideal S32x1 .f32) :
    k0_pay1 (k0_pay42 q (k0_pay58 x0 x1 x2 x3 x4 x5) (k0_pay59 x0 x1 x2 x3 x4 x5) (k0_pay57 x0 x1 x2 x3 x4 x5) (k0_pay60 x0 x1 x2 x3 x4 x5) (k0_pay61 x0 x1 x2 x3 x4 x5) (k0_pay62 x0 x1 x2 x3 x4 x5))
      (k0_pay43 q (k0_pay58 x0 x1 x2 x3 x4 x5) (k0_pay59 x0 x1 x2 x3 x4 x5) (k0_pay57 x0 x1 x2 x3 x4 x5) (k0_pay60 x0 x1 x2 x3 x4 x5) (k0_pay61 x0 x1 x2 x3 x4 x5) (k0_pay62 x0 x1 x2 x3 x4 x5))
      (k0_pay44 q (k0_pay58 x0 x1 x2 x3 x4 x5) (k0_pay59 x0 x1 x2 x3 x4 x5) (k0_pay57 x0 x1 x2 x3 x4 x5) (k0_pay60 x0 x1 x2 x3 x4 x5) (k0_pay61 x0 x1 x2 x3 x4 x5) (k0_pay62 x0 x1 x2 x3 x4 x5)) g b
    = k0_pay1 (kadd q) (kmean q) (kvar q) g b := by
  unfold k0_pay57 k0_pay58 k0_pay59 k0_pay60 k0_pay61 k0_pay62 kadd kmean kvar
  with_reducible rfl

/-- The block the kernel leaves at a point: the normalized code its word picks, encoding added. -/
theorem kout (x0 : Vec Ideal S32x1024 .bf16) (x1 : Vec Ideal S32x8192 .f32) (x2 : Vec Ideal S1x1024 .f32) (x3 : Vec Ideal S8192x1 .f32) (x4 x5 : Vec Ideal S32x1 .f32)
    (hfin : ∀ c k, ∃ r : ℝ, x1 (ix2 c k) = (r : EReal)) (p : Fin 1024) :
    ∃ k : Fin 8192, IsFirst (kdist x0 x1 x2 x3 p) k ∧ ∀ c : Fin 32, out0_6 x0 x1 x2 x3 x4 x5 (ix2 c p) =
      lnorm (fun c => x1 (ix2 c k) + penc c p) (x4 (ix2 c 0)) (x5 (ix2 c 0)) c := by
  obtain ⟨k, hk, hf⟩ := kidx x0 x1 x2 x3 p
  refine ⟨k, hf, fun c => ?_⟩
  frame_out
  rw [pay1_eq, p1, pay56_eq]
  have hq : chan (quant (k0_pay24 (kc3 x1)) (k0_pay26 (kc3 x1)) (k0_pay27 (kc3 x1)) (I4 x0 x1 x2 x3)) p = fun c => x1 (ix2 c k) + penc c p := by
    funext c
    unfold chan
    rw [quant_at x1 _ c p k hk (hfin c k)]
  rw [hq]
end Cert.Val
-- ==== Proof.RefA.lean ====
module

public import proofs.«01_k».proof.Proof.RefRun
public import proofs.«01_k».proof.Proof.Spec
public import Idealize.ShloMosaic.Lib.Pointwise

@[expose] public section

set_option maxRecDepth 16384

noncomputable section
namespace Cert.Val
open Idealize.ShloMosaic Idealize.ShloMosaic.Pointwise Cert.ReferenceIdeal Cert.RefRun

/-- What each stretch of the reference leaves, read at a point. -/
theorem r22 (v8 : FVec Ideal S8192x32 .f32) (a3 : FVec Ideal S8192x32 .f32) (n k : Fin 8192) :
    t_v22 (F := Ideal) v8 a3 (ix2 n k) = ∑ x, v8 (ix2 n x) * v8 (ix2 n x) -
      Ideal.ofBits .f32 1073741824#32 * ∑ x, v8 (ix2 n x) * a3 (ix2 k x) + ∑ x, a3 (ix2 k x) * a3 (ix2 k x) := by
  pointwise [t_v22]
/-- The straight-through sum at an index. -/
theorem r29 (v8 : FVec Ideal S8192x32 .f32) (v24 : FVec Ideal S8192x32 .f32) (b : Fin 8) (c h w : Fin 32) :
    t_v29 (F := Ideal) v8 v24 (ix4 b c h w) = v8 (ix2 ⟨b.val * 1024 + (h.val * 32 + w.val), by omega⟩ c) +
      (v24 (ix2 ⟨b.val * 1024 + (h.val * 32 + w.val), by omega⟩ c) - v8 (ix2 ⟨b.val * 1024 + (h.val * 32 + w.val), by omega⟩ c)) := by
  pointwise [t_v29]
/-- The rows' angle at an index. -/
theorem r41 (v : FVec Ideal S8x32x32 .f32) (b : Fin 8) (h w : Fin 32) :
    t_v41 (F := Ideal) v (ix3 b h w) = Ideal.div (v (ix3 b h w)) (v (ix3 b 31 w) + Ideal.ofBits .f32 897988541#32) *
      Ideal.ofBits .f32 1073741824#32 * Ideal.ofBits .f32 1078530011#32 := by
  pointwise [t_v41]
/-- The columns' angle at an index. -/
theorem r50 (v : FVec Ideal S8x32x32 .f32) (b : Fin 8) (h w : Fin 32) :
    t_v50 (F := Ideal) v (ix3 b h w) = Ideal.div (v (ix3 b h w)) (v (ix3 b h 31) + Ideal.ofBits .f32 897988541#32) *
      Ideal.ofBits .f32 1073741824#32 * Ideal.ofBits .f32 1078530011#32 := by
  pointwise [t_v50]
/-- A word below sixteen, read as an integer. -/
theorem small_word : ∀ m : Fin 16, (BitVec.ofNat 32 m.val).toInt = (m.val : ℤ) := by decide +kernel
/-- The encoding's divisors. -/
theorem r60 (m : Fin 16) : t_v60 (F := Ideal) (ix1 m) = den m.val := by
  pointwise [t_v60]
  rw [show FloatOps.sitofp (F := Ideal) .f32 (BitVec.ofNat 32 m.val) = (((m.val : ℕ) : ℝ) : EReal) by
    show (((BitVec.ofNat 32 m.val).toInt : ℝ) : EReal) = _
    rw [small_word]; rfl]
  rfl
/-- The columns' quotients. -/
theorem r65 (v50 : FVec Ideal S8x32x32 .f32) (v60 : FVec Ideal S16 .f32) (b : Fin 8) (h w : Fin 32) (m : Fin 16) :
    t_v65 (F := Ideal) v50 v60 (ix4 b h w m) = Ideal.div (v50 (ix3 b h w)) (v60 (ix1 m)) := by
  pointwise [t_v65]
/-- The rows' quotients. -/
theorem r70 (v50 : FVec Ideal S8x32x32 .f32) (v60 : FVec Ideal S16 .f32) (b : Fin 8) (h w : Fin 32) (m : Fin 16) :
    t_v70 (F := Ideal) v50 v60 (ix4 b h w m) = Ideal.div (v50 (ix3 b h w)) (v60 (ix1 m)) := by
  pointwise [t_v70]
/-- The sine and cosine encoding at an index. -/
theorem r88 (v65 v70 : FVec Ideal S8x32x32x16 .f32) (b : Fin 8) (c h w : Fin 32) :
    t_v88 (F := Ideal) v65 v70 (ix4 b c h w) = if c.val % 2 = 0 then
        Ideal.sin (if c.val < 16 then v70 (ix4 b h w ⟨c.val % 16, by omega⟩) else v65 (ix4 b h w ⟨c.val % 16, by omega⟩))
      else Ideal.cos (if c.val < 16 then v70 (ix4 b h w ⟨c.val % 16, by omega⟩) else v65 (ix4 b h w ⟨c.val % 16, by omega⟩)) := by
  pointwise [t_v88, catS8x32x32x32, catS8x32x32x8x2]
  by_cases h1 : c.val < 16 <;> by_cases h2 : c.val % 2 = 0
  · rw [dif_pos h1, dif_pos (by omega), if_pos h2, if_pos h1]
    exact congrArg (fun m => Ideal.sin (v70 (ix4 b h w m))) (Fin.ext (by simp only; omega))
  · rw [dif_pos h1, dif_neg (by omega), if_neg h2, if_pos h1]
    exact congrArg (fun m => Ideal.cos (v70 (ix4 b h w m))) (Fin.ext (by simp only; omega))
  · rw [dif_neg h1, dif_pos (by omega), if_pos h2, if_neg h1]
    exact congrArg (fun m => Ideal.sin (v65 (ix4 b h w m))) (Fin.ext (by simp only; omega))
  · rw [dif_neg h1, dif_neg (by omega), if_neg h2, if_neg h1]
    exact congrArg (fun m => Ideal.cos (v65 (ix4 b h w m))) (Fin.ext (by simp only; omega))
/-- The sum of codes and encoding, patches in a row. -/
theorem r91 (v29 v88 : FVec Ideal S8x32x32x32 .f32) (b : Fin 8) (p : Fin 1024) (c : Fin 32) :
    t_v91 (F := Ideal) v29 v88 (ix3 b p c) = v29 (ix4 b c ⟨p.val / 32, by omega⟩ ⟨p.val % 32, by omega⟩) +
      v88 (ix4 b c ⟨p.val / 32, by omega⟩ ⟨p.val % 32, by omega⟩) := by
  pointwise [t_v91]
/-- The channels' mean. -/
theorem r95 (v91 : FVec Ideal S8x1024x32 .f32) (b : Fin 8) (p : Fin 1024) :
    t_v95 (F := Ideal) v91 (ix3 b p 0) = mean (fun c => v91 (ix3 b p c)) := by
  pointwise [t_v95]; rfl
/-- The channels' variance. -/
theorem r96 (v91 : FVec Ideal S8x1024x32 .f32) (b : Fin 8) (p : Fin 1024) :
    t_v96 (F := Ideal) v91 (ix3 b p 0) = Ideal.div (∑ x, (v91 (ix3 b p x) - mean (fun c => v91 (ix3 b p c))) *
      (v91 (ix3 b p x) - mean (fun c => v91 (ix3 b p c)))) (Ideal.ofBits .f32 1107296256#32) := by
  pointwise [t_v96]
  have e : Ideal.ofBits .f32 1107296256#32 - FloatOps.sitofp (F := Ideal) .f32 0#32 = Ideal.ofBits .f32 1107296256#32 := by
    rw [show FloatOps.sitofp (F := Ideal) .f32 0#32 = (0 : EReal) by show (((0#32).toInt : ℝ) : EReal) = 0; simp, sub_zero]
  rw [e, if_pos (by rw [w32]; exact_mod_cast (by norm_num : (0:ℝ) < 32))]
  rfl
/-- The layer norm at an index. -/
theorem r109 (v91 : FVec Ideal S8x1024x32 .f32) (v95 v96 : FVec Ideal S8x1024x1 .f32) (g e : FVec Ideal S32 .f32) (b : Fin 8) (p : Fin 1024) (c : Fin 32) :
    t_v109 (F := Ideal) v91 v95 v96 g e (ix3 b p c) = Ideal.div (v91 (ix3 b p c) - v95 (ix3 b p 0)) (Ideal.sqrt (v96 (ix3 b p 0) + Ideal.ofBits .f32 925353388#32)) *
        g (ix1 c) + e (ix1 c) := by
  pointwise [t_v109]
end Cert.Val
-- ==== Proof.WinA.lean ====
module

public import proofs.«01_k».proof.Proof.RefRun
public import Idealize.ShloMosaic.Lib.Pointwise
public import Idealize.ShloMosaic.Lib.IdealHost

@[expose] public section

set_option maxRecDepth 16384

noncomputable section
namespace Cert.Val
open Idealize.ShloMosaic Idealize.ShloMosaic.Pointwise Cert.ReferenceIdeal Cert.RefRun

/-- Adding one for each list member that passes a test counts them. -/
theorem foldl_count {β : Type} (P : β → Prop) [DecidablePred P] (L : List β) (k : ℕ) :
    L.foldl (fun (r : EReal) n => r + (if P n then 1 else 0)) ((k : ℝ) : EReal) = (((k + L.countP (fun n => decide (P n)) : ℕ) : ℝ) : EReal) := by
  induction L generalizing k with
  | nil => simp
  | cons a L ih =>
    by_cases h : P a
    · rw [List.foldl_cons, if_pos h, show ((k : ℝ) : EReal) + 1 = (((k + 1 : ℕ) : ℝ) : EReal) by push_cast; rfl, ih]
      rw [List.countP_cons_of_pos (by simpa using h)]; congr 2; omega
    · rw [List.foldl_cons, if_neg h, add_zero, ih]
      simp [h]

/-- A window along the rows. -/
abbrev W1 : Shape := ⟨3, ![1, 32, 1]⟩
/-- A window along the columns. -/
abbrev W2 : Shape := ⟨3, ![1, 1, 32]⟩
/-- The coordinates of a place in a window along the rows. -/
theorem w1_at : ∀ n : Fin W1.numel, (W1.rowMajor.symm n 0).val = 0 ∧ (W1.rowMajor.symm n 1).val = n.val ∧ (W1.rowMajor.symm n 2).val = 0 := by decide +kernel
/-- The coordinates of a place in a window along the columns. -/
theorem w2_at : ∀ n : Fin W2.numel, (W2.rowMajor.symm n 0).val = 0 ∧ (W2.rowMajor.symm n 1).val = 0 ∧ (W2.rowMajor.symm n 2).val = n.val := by decide +kernel

/-- How many places of a row window lie inside the array. -/
theorem count1 : ∀ h : Fin 32, (List.finRange W1.numel).countP (fun n => decide (31 ≤ h.val + n.val)) = h.val + 1 := by decide +kernel
/-- How many places of a column window lie inside the array. -/
theorem count2 : ∀ h : Fin 32, (List.finRange W2.numel).countP (fun n => decide (31 ≤ h.val + n.val)) = h.val + 1 := by decide +kernel

/-- The cumulative sum of ones down the rows. -/
theorem r31 (b : Fin 8) (h w : Fin 32) : t_v31 (F := Ideal) (ix3 b h w) = (((h.val + 1 : ℕ) : ℝ) : EReal) := by
  have key := foldl_count (fun n : Fin W1.numel => 31 ≤ h.val + n.val) (List.finRange W1.numel) 0
  rw [count1, Nat.zero_add] at key
  rw [← key]
  unfold t_v31 Host.reduceWindowAdd
  rw [Ideal.hostReduceWindowAdd_def]
  unfold Ideal.hostReduceWindowAdd Host.reduceWindow
  have hz : broadcastInDim S_ ![] Gen.bcast_S_S_ (constant (F := Ideal) S_ .f32 0x00000000#32) (Shape.Idx.first Gen.h_S_) = (((0:ℕ) : ℝ) : EReal) := by
    show Ideal.ofBits .f32 0#32 = _
    rw [Ideal.ofBits_zero_f32]; simp
  have ho : ∀ i, broadcastInDim S8x32x32 ![] Gen.bcast_S_S8x32x32 (constant (F := Ideal) S_ .f32 0x3F800000#32) i = (1 : EReal) := by
    intro i
    show Ideal.ofBits .f32 0x3F800000#32 = _
    exact Ideal.ofBits_one_f32
  simp only [hz, ho]
  refine congrFun (congrArg₂ _ (funext fun r => funext fun n => ?_) rfl) _
  refine congrArg (r + ·) ?_
  obtain ⟨e0, e1, e2⟩ := w1_at n
  have hn : n.val < 32 := lt_of_lt_of_eq n.isLt (by decide +kernel)
  by_cases hh : 31 ≤ h.val + n.val
  · rw [if_pos hh, dif_pos]
    intro a
    match a with
    | 0 => show 0 ≤ b.val * 1 + (W1.rowMajor.symm n 0).val ∧ b.val * 1 + (W1.rowMajor.symm n 0).val - 0 < 8
           rw [e0]; omega
    | 1 => show 31 ≤ h.val * 1 + (W1.rowMajor.symm n 1).val ∧ h.val * 1 + (W1.rowMajor.symm n 1).val - 31 < 32
           rw [e1]; omega
    | 2 => show 0 ≤ w.val * 1 + (W1.rowMajor.symm n 2).val ∧ w.val * 1 + (W1.rowMajor.symm n 2).val - 0 < 32
           rw [e2]; omega
  · rw [if_neg hh, dif_neg]
    · simp
    · intro hall
      have h1 : 31 ≤ h.val * 1 + (W1.rowMajor.symm n 1).val := (hall 1).1
      rw [e1] at h1; omega

/-- The cumulative sum of ones along the columns. -/
theorem r32 (b : Fin 8) (h w : Fin 32) : t_v32 (F := Ideal) (ix3 b h w) = (((w.val + 1 : ℕ) : ℝ) : EReal) := by
  have key := foldl_count (fun n : Fin W2.numel => 31 ≤ w.val + n.val) (List.finRange W2.numel) 0
  rw [count2, Nat.zero_add] at key
  rw [← key]
  unfold t_v32 Host.reduceWindowAdd
  rw [Ideal.hostReduceWindowAdd_def]
  unfold Ideal.hostReduceWindowAdd Host.reduceWindow
  have hz : broadcastInDim S_ ![] Gen.bcast_S_S_ (constant (F := Ideal) S_ .f32 0x00000000#32) (Shape.Idx.first Gen.h_S_) = (((0:ℕ) : ℝ) : EReal) := by
    show Ideal.ofBits .f32 0#32 = _
    rw [Ideal.ofBits_zero_f32]; simp
  have ho : ∀ i, broadcastInDim S8x32x32 ![] Gen.bcast_S_S8x32x32 (constant (F := Ideal) S_ .f32 0x3F800000#32) i = (1 : EReal) := by
    intro i
    show Ideal.ofBits .f32 0x3F800000#32 = _
    exact Ideal.ofBits_one_f32
  simp only [hz, ho]
  refine congrFun (congrArg₂ _ (funext fun r => funext fun n => ?_) rfl) _
  refine congrArg (r + ·) ?_
  obtain ⟨e0, e1, e2⟩ := w2_at n
  have hn : n.val < 32 := lt_of_lt_of_eq n.isLt (by decide +kernel)
  by_cases hh : 31 ≤ w.val + n.val
  · rw [if_pos hh, dif_pos]
    intro a
    match a with
    | 0 => show 0 ≤ b.val * 1 + (W2.rowMajor.symm n 0).val ∧ b.val * 1 + (W2.rowMajor.symm n 0).val - 0 < 8
           rw [e0]; omega
    | 1 => show 0 ≤ h.val * 1 + (W2.rowMajor.symm n 1).val ∧ h.val * 1 + (W2.rowMajor.symm n 1).val - 0 < 32
           rw [e1]; omega
    | 2 => show 31 ≤ w.val * 1 + (W2.rowMajor.symm n 2).val ∧ w.val * 1 + (W2.rowMajor.symm n 2).val - 31 < 32
           rw [e2]; omega
  · rw [if_neg hh, dif_neg]
    · simp
    · intro hall
      have h1 : 31 ≤ w.val * 1 + (W2.rowMajor.symm n 2).val := (hall 2).1
      rw [e2] at h1; omega

end Cert.Val
-- ==== Proof.FinA.lean ====
module

public import proofs.«01_k».proof.Proof.RefRun
public import proofs.«01_k».proof.Proof.Fold
public import Idealize.ShloMosaic.Lib.Pointwise

@[expose] public section

set_option maxRecDepth 16384

noncomputable section
namespace Cert.Val
open Idealize.ShloMosaic Idealize.ShloMosaic.Pointwise Cert.ReferenceIdeal Cert.RefRun

/-- A finite extended real. -/
def Real' (x : EReal) : Prop := ∃ r : ℝ, x = (r : EReal)

/-- A sum of reals is real. -/
theorem Real'.add {x y : EReal} (hx : Real' x) (hy : Real' y) : Real' (x + y) := by
  obtain ⟨r, rfl⟩ := hx; obtain ⟨s, rfl⟩ := hy; exact ⟨r + s, (EReal.coe_add r s).symm⟩
/-- A product of reals is real. -/
theorem Real'.mul {x y : EReal} (hx : Real' x) (hy : Real' y) : Real' (x * y) := by
  obtain ⟨r, rfl⟩ := hx; obtain ⟨s, rfl⟩ := hy; exact ⟨r * s, (EReal.coe_mul r s).symm⟩
/-- A finite sum of reals is real. -/
theorem Real'.sum {ι : Type} (S : Finset ι) (f : ι → EReal) (h : ∀ i, Real' (f i)) : Real' (∑ i ∈ S, f i) := by
  classical
  induction S using Finset.induction_on with
  | empty => exact ⟨0, by simp⟩
  | insert a S ha ih => rw [Finset.sum_insert ha]; exact (h a).add ih
/-- Adding back what was taken away. -/
theorem Real'.back {x y : EReal} (hx : Real' x) (hy : Real' y) : x + (y - x) = y := by
  obtain ⟨r, rfl⟩ := hx; obtain ⟨s, rfl⟩ := hy
  rw [← EReal.coe_sub, ← EReal.coe_add]; congr 1; ring
/-- The largest of finitely many finite numbers, at least one, is finite. -/
theorem Real'.fold_max {ι : Type} (S : Finset ι) (hS : S.Nonempty) (f : ι → EReal) (h : ∀ i, Real' (f i)) :
    Real' (Finset.fold max ⊥ f S) := by
  classical
  induction hS using Finset.Nonempty.cons_induction with
  | singleton a => rw [Finset.fold_singleton]; simpa using h a
  | cons a S ha _ ih =>
    rw [Finset.cons_eq_insert, Finset.fold_insert ha]
    rcases max_choice (f a) (Finset.fold max ⊥ f S) with e | e <;> rw [e]
    · exact h a
    · exact ih
/-- The word of minus infinity denotes minus infinity. -/
theorem ofBits_bot : Ideal.ofBits .f32 4286578688#32 = (⊥ : EReal) := by simp [Ideal.ofBits, Ideal.ieee]

/-- Every index of the pooled array is reached. -/
theorem drop_onto (j : S8x768x32x32.Idx) : ∃ i, Gen.reducesTo_S8x768x32x2x32x2_S8x768x32x32_d3_5.drop i = j := by
  let i : S8x768x32x2x32x2.Idx := fun a => match a with
    | ⟨0, _⟩ => j 0 | ⟨1, _⟩ => j 1 | ⟨2, _⟩ => j 2 | ⟨3, _⟩ => (0 : Fin 2) | ⟨4, _⟩ => j 3 | ⟨5, _⟩ => (0 : Fin 2)
  refine ⟨i, ?_⟩
  funext b
  match b with
  | 0 => exact Fin.ext (Shape.ReducesTo.drop_apply_val_of_eq Gen.reducesTo_S8x768x32x2x32x2_S8x768x32x32_d3_5 i 0 0)
  | 1 => exact Fin.ext (Shape.ReducesTo.drop_apply_val_of_eq Gen.reducesTo_S8x768x32x2x32x2_S8x768x32x32_d3_5 i 1 1)
  | 2 => exact Fin.ext (Shape.ReducesTo.drop_apply_val_of_eq Gen.reducesTo_S8x768x32x2x32x2_S8x768x32x32_d3_5 i 2 2)
  | 3 => exact Fin.ext (Shape.ReducesTo.drop_apply_val_of_eq Gen.reducesTo_S8x768x32x2x32x2_S8x768x32x32_d3_5 i 3 4)

/-- With finite arguments the projected features are finite. -/
theorem r8_real (a0 : FVec Ideal S8x768x64x64 .f32) (a1 : FVec Ideal S32x768 .f32) (a2 : FVec Ideal S32 .f32)
    (h0 : ∀ i, Real' (a0 i)) (h1 : ∀ i, Real' (a1 i)) (h2 : ∀ i, Real' (a2 i)) (n : Fin 8192) (c : Fin 32) :
    Real' (t_v8 (F := Ideal) a0 a1 a2 (ix2 n c)) := by
  pointwise [t_v8]
  refine (Real'.sum _ _ fun x => (h1 _).mul ?_).add (h2 _)
  rw [ofBits_bot]
  refine Real'.fold_max _ ?_ _ fun _ => h0 _
  obtain ⟨i, hi⟩ := drop_onto (ix4 ⟨n.val / 1024, by omega⟩ x ⟨n.val / 32 % 32, by omega⟩ ⟨n.val % 32, by omega⟩)
  exact ⟨i, by rw [Finset.mem_filter]; exact ⟨Finset.mem_univ _, hi⟩⟩
end Cert.Val
-- ==== Proof.RefC.lean ====
module

public import proofs.«01_k».proof.Proof.RefA
public import proofs.«01_k».proof.Proof.WinA
public import proofs.«01_k».proof.Proof.FinA

@[expose] public section

set_option maxRecDepth 16384

noncomputable section
namespace Cert.Val
open Idealize.ShloMosaic Idealize.ShloMosaic.Pointwise Cert.ReferenceIdeal Cert.RefRun

variable (a0 : FVec Ideal S8x768x64x64 .f32) (a1 : FVec Ideal S32x768 .f32) (a2 : FVec Ideal S32 .f32) (a3 : FVec Ideal S8192x32 .f32) (a4 a5 : FVec Ideal S32 .f32)

/-- The last count is the word of 32. -/
theorem w32_nat : (((((31 : Fin 32).val + 1 : ℕ)) : ℝ) : EReal) = Ideal.ofBits .f32 1107296256#32 := by
  rw [w32]; norm_num

/-- The row and column angles. -/
theorem v41_at (b : Fin 8) (h w : Fin 32) : r_v41 (F := Ideal) a0 a1 a2 a3 a4 a5 (ix3 b h w) = tick h.val := by
  unfold r_v41 r_v31
  rw [r41, r31, r31, w32_nat, tick]
/-- The columns' angle of the arguments. -/
theorem v50_at (b : Fin 8) (h w : Fin 32) : r_v50 (F := Ideal) a0 a1 a2 a3 a4 a5 (ix3 b h w) = tick w.val := by
  unfold r_v50 r_v32
  rw [r50, r32, r32, w32_nat, tick]

/-- The reference's positional encoding. -/
theorem v88_at (b : Fin 8) (c : Fin 32) (p : Fin 1024) :
    r_v88 (F := Ideal) a0 a1 a2 a3 a4 a5 (ix4 b c ⟨p.val / 32, by omega⟩ ⟨p.val % 32, by omega⟩) = penc c.val p.val := by
  unfold r_v88 r_v65 r_v70 r_v60
  rw [r88, r65, r70, r60, v41_at, v50_at, penc]
  by_cases h : c.val < 16
  · simp only [if_pos h]
  · simp only [if_neg h]

/-- The sum of code and encoding in the reference, given the code gathered for the point. -/
theorem v91_at (b : Fin 8) (p : Fin 1024) (c : Fin 32) (k : Fin 8192)
    (h8 : Real' (r_v8 (F := Ideal) a0 a1 a2 a3 a4 a5 (ix2 ⟨b.val * 1024 + p.val, by omega⟩ c)))
    (h3 : Real' (a3 (ix2 k c)))
    (hk : r_v24 (F := Ideal) a0 a1 a2 a3 a4 a5 (ix2 ⟨b.val * 1024 + p.val, by omega⟩ c) = a3 (ix2 k c)) :
    r_v91 (F := Ideal) a0 a1 a2 a3 a4 a5 (ix3 b p c) = a3 (ix2 k c) + penc c.val p.val := by
  unfold r_v91
  rw [r91, v88_at]
  unfold r_v29
  rw [r29]
  have e : (⟨b.val * 1024 + (p.val / 32 * 32 + p.val % 32), by omega⟩ : Fin 8192) = ⟨b.val * 1024 + p.val, by omega⟩ :=
    Fin.ext (by simp only; omega)
  rw [e, hk, h8.back h3]

/-- The reference's first result at a point. -/
theorem v109_at (b : Fin 8) (p : Fin 1024) (k : Fin 8192)
    (h : ∀ c, r_v91 (F := Ideal) a0 a1 a2 a3 a4 a5 (ix3 b p c) = a3 (ix2 k c) + penc c.val p.val) (c : Fin 32) :
    r_v109 (F := Ideal) a0 a1 a2 a3 a4 a5 (ix3 b p c) = lnorm (fun c => a3 (ix2 k c) + penc c.val p.val) (a4 (ix1 c)) (a5 (ix1 c)) c := by
  unfold r_v109 r_v95 r_v96
  rw [r109, r95, r96]
  simp only [h]
  rfl
end Cert.Val
-- ==== Proof.GatA.lean ====
module

public import proofs.«01_k».proof.Proof.RefRun
public import proofs.«01_k».proof.Proof.Fold
public import Idealize.ShloMosaic.Lib.Pointwise

@[expose] public section

set_option maxRecDepth 16384

noncomputable section
namespace Cert.Val
open Idealize.ShloMosaic Idealize.ShloMosaic.Pointwise Cert.ReferenceIdeal Cert.RefRun

/-- The gather reads the row its word names. -/
theorem gat (x : FVec Ideal S8192x32 .f32) (idx : IVec S8192x1 32) (n : Fin 8192) (c : Fin 32) :
    Host.gather gather_S8192x32_S8192x1_S8192x32_1_0_n_n_0_1_132 x idx (ix2 n c)
      = x (ix2 ⟨min (idx (ix2 n 0)).toInt.toNat 8191, by omega⟩ c) := by
  unfold Host.gather
  congr 1
  funext a
  refine Fin.ext ?_
  show (gather_S8192x32_S8192x1_S8192x32_1_0_n_n_0_1_132).start (ix2 n c) idx a + (gather_S8192x32_S8192x1_S8192x32_1_0_n_n_0_1_132).batchCoord (ix2 n c) a
      + (gather_S8192x32_S8192x1_S8192x32_1_0_n_n_0_1_132).offCoord (ix2 n c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S8192x32_S8192x1_S8192x32_1_0_n_n_0_1_132] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S8192x32_S8192x1_S8192x32_1_0_n_n_0_1_132).startIndexMap from List.mem_singleton.mpr rfl)]
    have hsi : (gather_S8192x32_S8192x1_S8192x32_1_0_n_n_0_1_132).siIdx (ix2 n c) ⟨List.idxOf (0 : Fin 2) (gather_S8192x32_S8192x1_S8192x32_1_0_n_n_0_1_132).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · rw [GatherDims.batchCoord_eq_zero _ _ _ (fun h => by simp [gather_S8192x32_S8192x1_S8192x32_1_0_n_n_0_1_132] at h)]
    unfold GatherDims.start
    rw [dif_neg (show ¬ (1 : Fin 2) ∈ (gather_S8192x32_S8192x1_S8192x32_1_0_n_n_0_1_132).startIndexMap by simp [gather_S8192x32_S8192x1_S8192x32_1_0_n_n_0_1_132])]
    simp only [Nat.zero_add]
    rfl
end Cert.Val
-- ==== Proof.RefB.lean ====
module

public import proofs.«01_k».proof.Proof.GatA
public import proofs.«01_k».proof.Proof.Fold
public import Idealize.ShloMosaic.Lib.Pointwise

@[expose] public section

set_option maxRecDepth 16384

noncomputable section
namespace Cert.Val
open Idealize.ShloMosaic Idealize.ShloMosaic.Pointwise Cert.ReferenceIdeal Cert.RefRun

/-- The words the gather is given, a column of them. -/
def widx (v23 : IVec S8192 32) : IVec S8192x1 32 :=
  broadcastInDim S8192x1 ![0] Gen.bcast_S8192_S8192x1_0
    (select (cmpi CmpIPredicate.slt v23 (broadcastInDim S8192 ![] Gen.bcast_S_S8192 (constantI S_ 32 0#32)))
      (addi v23 (broadcastInDim S8192 ![] Gen.bcast_S_S8192 (constantI S_ 32 8192#32))) v23)

/-- The wrapped index at a row. -/
theorem widx_at (v23 : IVec S8192 32) (n : Fin 8192) : widx v23 (ix2 n 0) =
    Scalar.select (IntOp.cmpi CmpIPredicate.slt (v23 (ix1 n)) 0#32) (IntOp.addi (v23 (ix1 n)) 8192#32) (v23 (ix1 n)) := by
  pointwise [widx]

/-- A signed comparison that fails. -/
theorem slt_word (a b : BitVec 32) (h : ¬ a.toInt < b.toInt) : IntOp.cmpi CmpIPredicate.slt a b = 0#1 := by
  show BitVec.ofBool (a.slt b) = 0#1
  rw [show a.slt b = false from decide_eq_false h]; rfl
/-- A signed comparison from below that holds. -/
theorem sge_word (a b : BitVec 32) (h : b.toInt ≤ a.toInt) : IntOp.cmpi CmpIPredicate.sge a b = 1#1 := by
  show BitVec.ofBool (b.sle a) = 1#1
  rw [show b.sle a = true from decide_eq_true h]; rfl
/-- A signed comparison from above that holds. -/
theorem sle_word (a b : BitVec 32) (h : a.toInt ≤ b.toInt) : IntOp.cmpi CmpIPredicate.sle a b = 1#1 := by
  show BitVec.ofBool (a.sle b) = 1#1
  rw [show a.sle b = true from decide_eq_true h]; rfl

/-- A conjunction of ones is one. -/
theorem fold_ones {ι : Type} (S : Finset ι) : Finset.fold IntOp.andi (1#1) (fun _ : ι => (1#1 : BitVec 1)) S = 1#1 := by
  classical
  induction S using Finset.induction_on with
  | empty => rfl
  | insert a S ha ih => rw [Finset.fold_insert ha, ih]; rfl

/-- The gathered row is the code its word names. -/
theorem r24 (a3 : FVec Ideal S8192x32 .f32) (v23 : IVec S8192 32) (n : Fin 8192) (c : Fin 32) (k : Fin 8192)
    (hk : v23 (ix1 n) = BitVec.ofNat 32 k.val) :
    t_v24 (F := Ideal) a3 v23 (ix2 n c) = a3 (ix2 k c) := by
  have hi : (BitVec.ofNat 32 k.val).toInt = (k.val : ℤ) := toInt_small _ (by omega)
  have h0 : (0#32 : BitVec 32).toInt = 0 := by decide
  have h1 : (8191#32 : BitVec 32).toInt = 8191 := by decide
  have hlt := k.isLt
  have hs : Scalar.select (IntOp.cmpi CmpIPredicate.slt (v23 (ix1 n)) 0#32) (IntOp.addi (v23 (ix1 n)) 8192#32) (v23 (ix1 n)) = BitVec.ofNat 32 k.val := by
    rw [hk, slt_word _ _ (by rw [hi, h0]; omega)]; rfl
  have hg := gat a3 (widx v23) n c
  simp only [widx_at, hs] at hg
  pointwise [t_v24]
  rw [hs, sge_word _ _ (by rw [hi, h0]; omega), sle_word _ _ (by rw [hi, h1]; omega)]
  have ha : IntOp.andi (1#1 : BitVec 1) 1#1 = 1#1 := by decide
  rw [ha, fold_ones]
  refine Eq.trans (b := Host.gather gather_S8192x32_S8192x1_S8192x32_1_0_n_n_0_1_132 a3 (widx v23) (ix2 n c)) rfl (hg.trans ?_)
  refine congrArg (fun r => a3 (ix2 r c)) (Fin.ext ?_)
  show min (BitVec.ofNat 32 k.val).toInt.toNat 8191 = k.val
  rw [hi]; omega
end Cert.Val
-- ==== Proof.KerF.lean ====
module

public import proofs.«01_k».proof.Proof.KerE
public import proofs.«01_k».proof.Proof.KerD
public import proofs.«01_k».proof.Proof.RefC
public import proofs.«01_k».proof.Proof.RefB
public import Idealize.ShloMosaic.Lib.Pipeline.ValueKit
public import Idealize.ShloMosaic.Lib.Pointwise

@[expose] public section

set_option maxRecDepth 16384

noncomputable section
namespace Cert.Val
open Idealize.ShloMosaic Idealize.ShloMosaic.TcCoe Idealize.SL.Sem Idealize.ShloMosaic.Pointwise
open Cert.KernelIdeal Cert.KernelIdeal.Gen
open Idealize.ShloMosaic.Pipeline (Dat)

variable (m : (ℓ : Loc nD τ sig) → Buf (Elt Ideal) ℓ) (c : Dev nD)

/-- The block index of every window at every grid point. -/
theorem idx : ∀ t : Fin cfg0.N, win0_0.index t = ![0, t.val] ∧ win0_1.index t = ![0, 0] ∧ win0_2.index t = ![0, t.val]
    ∧ win0_3.index t = ![0, 0] ∧ win0_4.index t = ![0, 0] ∧ win0_5.index t = ![0, 0] ∧ win0_6.index t = ![0, t.val] :=
  (by decide +kernel : ∀ t : Fin grid0.N, _)

/-- Row `p` of the block of point `t`, counted in the whole array. -/
theorem rowlt (t : Fin cfg0.N) (p : Fin 1024) : t.val * 1024 + p.val < 8192 := by
  have : t.val < 8 := t.isLt
  omega

/-- The features' block, in the array it is cut from. -/
theorem b0 (t : Fin cfg0.N) (ch : Fin 32) (p : Fin 1024) :
    iblk m c 0 t (ix2 ch p) = V m c main_v10 (ix2 ch ⟨t.val * 1024 + p.val, rowlt t p⟩) := by
  blk_ext [iblk, idx t]
/-- The codes' block is the whole array. -/
theorem b1 (t : Fin cfg0.N) (ch : Fin 32) (k : Fin 8192) :
    iblk m c 1 t (ix2 ch k) = V m c main_v17 (ix2 ch k) := by
  blk_ext [iblk, idx t]
/-- The block of features' norms, in the array it is cut from. -/
theorem b2 (t : Fin cfg0.N) (p : Fin 1024) :
    iblk m c 2 t (ix2 0 p) = V m c main_v18 (ix2 0 ⟨t.val * 1024 + p.val, rowlt t p⟩) := by
  blk_ext [iblk, idx t]
/-- The block of codes' norms is the whole array. -/
theorem b3 (t : Fin cfg0.N) (k : Fin 8192) :
    iblk m c 3 t (ix2 k 0) = V m c main_v16 (ix2 k 0) := by
  blk_ext [iblk, idx t]
/-- The gain's block is the whole array. -/
theorem b4 (t : Fin cfg0.N) (ch : Fin 32) :
    iblk m c 4 t (ix2 ch 0) = V m c main_v19 (ix2 ch 0) := by
  blk_ext [iblk, idx t]
/-- The offset's block is the whole array. -/
theorem b5 (t : Fin cfg0.N) (ch : Fin 32) :
    iblk m c 5 t (ix2 ch 0) = V m c main_v20 (ix2 ch 0) := by
  blk_ext [iblk, idx t]
/-- The transposed and narrowed features at an index. -/
theorem h10 (v8 : FVec Ideal S8192x32 .f32) (ch : Fin 32) (n : Fin 8192) :
    transpose S32x8192 [1, 0] (truncf (F := Ideal) .bf16 v8 bitsLt_bf16_f32) transposes_S8192x32_S32x8192_1_0 (ix2 ch n) = v8 (ix2 n ch) := by
  pointwise
/-- The transposed codes at an index. -/
theorem h17 (a3 : FVec Ideal S8192x32 .f32) (ch : Fin 32) (n : Fin 8192) :
    transpose S32x8192 [1, 0] a3 transposes_S8192x32_S32x8192_1_0 (ix2 ch n) = a3 (ix2 n ch) := by
  pointwise
/-- The norms in a column at an index. -/
theorem h16 (a3 : FVec Ideal S8192x32 .f32) (n : Fin 8192) :
    broadcastInDim S8192x1 ![0] bcast_S8192_S8192x1_0 (Host.reduceAdd (F := Ideal) (mulf a3 a3) (constant S_ .f32 0x00000000#32) reducesTo_S8192x32_S8192_d1 h_S_) (ix2 n 0) = ∑ x : Fin 32, a3 (ix2 n x) * a3 (ix2 n x) := by
  pointwise
/-- The norms in a row at an index. -/
theorem h18 (a3 : FVec Ideal S8192x32 .f32) (n : Fin 8192) :
    shapeCast S1x8192 (broadcastInDim S8192x1 ![0] bcast_S8192_S8192x1_0 (Host.reduceAdd (F := Ideal) (mulf a3 a3) (constant S_ .f32 0x00000000#32) reducesTo_S8192x32_S8192_d1 h_S_)) shapeCasts_S8192x1_S1x8192 (ix2 0 n) = ∑ x : Fin 32, a3 (ix2 n x) * a3 (ix2 n x) := by
  pointwise
/-- A vector in a column at an index. -/
theorem h19 (a4 : FVec Ideal S32 .f32) (ch : Fin 32) :
    shapeCast S32x1 a4 shapeCasts_S32_S32x1 (ix2 ch 0) = a4 (ix1 ch) := by
  pointwise

end Cert.Val
-- ==== Proof.RedA.lean ====
module

public import proofs.«01_k».proof.Proof.RefRun
public import proofs.«01_k».proof.Proof.Fold
public import Idealize.ShloMosaic.Lib.Pointwise

@[expose] public section

set_option maxRecDepth 16384

noncomputable section
namespace Cert.Val
open Idealize.ShloMosaic Idealize.ShloMosaic.Pointwise Cert.ReferenceIdeal Cert.RefRun

/-- The reference's choice between two pairs is one of them, and below both. -/
theorem red_facts (a b : EReal × BitVec 32) :
    (reducer_argmin_f32_i32 (F := Ideal) a b = a ∨ reducer_argmin_f32_i32 (F := Ideal) a b = b) ∧
      PLe (reducer_argmin_f32_i32 (F := Ideal) a b) a ∧ PLe (reducer_argmin_f32_i32 (F := Ideal) a b) b := by
  obtain ⟨a, i⟩ := a
  obtain ⟨b, j⟩ := b
  have e : reducer_argmin_f32_i32 (F := Ideal) (a, i) (b, j) =
      if a < b then (a, i) else if a = b ∧ i.slt j then (a, i) else (b, j) := by
    unfold reducer_argmin_f32_i32
    simp only [Ideal.cmpf_def, Ideal.cmp]
    by_cases h : a < b
    · simp [h, ne_of_lt h, Scalar.select, IntOp.ori, IntOp.andi]
    · by_cases g : a = b
      · subst g
        by_cases s : i.slt j
        · simp [s, Scalar.select, IntOp.ori, IntOp.andi, IntOp.cmpi]
        · simp [s, Scalar.select, IntOp.ori, IntOp.andi, IntOp.cmpi]
      · simp [h, g, Scalar.select, IntOp.ori, IntOp.andi]
  rw [e]
  by_cases h : a < b
  · rw [if_pos h]; exact ⟨Or.inl rfl, PLe.refl _, Or.inl h⟩
  · rw [if_neg h]
    by_cases g : a = b ∧ i.slt j
    · rw [if_pos g]; exact ⟨Or.inl rfl, PLe.refl _, Or.inr ⟨g.1, le_of_lt (BitVec.slt_iff_toInt_lt.1 g.2)⟩⟩
    · rw [if_neg g]
      refine ⟨Or.inr rfl, ?_, PLe.refl _⟩
      rcases lt_or_eq_of_le (not_lt.1 h) with h' | h'
      · exact Or.inl h'
      · refine Or.inr ⟨h', ?_⟩
        by_contra hc
        exact g ⟨h'.symm, BitVec.slt_iff_toInt_lt.2 (not_le.1 hc)⟩

end Cert.Val
-- ==== Proof.ArgB.lean ====
module

public import proofs.«01_k».proof.Proof.RefRun
public import proofs.«01_k».proof.Proof.Fold
public import Idealize.ShloMosaic.Lib.Pointwise

@[expose] public section

set_option maxRecDepth 16384

noncomputable section
namespace Cert.Val
open Idealize.ShloMosaic Idealize.ShloMosaic.Pointwise Cert.ReferenceIdeal Cert.RefRun

/-- The pairs reduced to the row `n` are those of its entries. -/
theorem mem_fiber {N M : ℕ} {α β : Type} (h : Shape.ReducesTo ⟨2, ![N, M]⟩ [1] ⟨1, ![N]⟩)
    (x : (⟨2, ![N, M]⟩ : Shape).Idx → α) (y : (⟨2, ![N, M]⟩ : Shape).Idx → β) (n : Fin N) (p : α × β) :
    p ∈ Host.argReduceFiber x y h (ix1 n) ↔ ∃ k : Fin M, p = (x (ix2 n k), y (ix2 n k)) := by
  have hd : ∀ i : (⟨2, ![N, M]⟩ : Shape).Idx, (h.drop i 0 : ℕ) = i 0 :=
    fun i => Shape.ReducesTo.drop_apply_val_of_eq h i 0 0 Nat.zero_lt_one rfl
  unfold Host.argReduceFiber
  rw [List.mem_map]
  constructor
  · rintro ⟨m, hm, rfl⟩
    rw [List.mem_filter] at hm
    have hj := of_decide_eq_true hm.2
    have h0 : (((⟨2, ![N, M]⟩ : Shape).rowMajor.symm m) 0).val = n.val := by
      rw [← hd, hj]; rfl
    have hi : (⟨2, ![N, M]⟩ : Shape).rowMajor.symm m = ix2 n (((⟨2, ![N, M]⟩ : Shape).rowMajor.symm m) 1) := by
      funext a
      match a with
      | 0 => exact Fin.ext h0
      | 1 => rfl
    exact ⟨((⟨2, ![N, M]⟩ : Shape).rowMajor.symm m) 1, Prod.ext (congrArg x hi) (congrArg y hi)⟩
  · rintro ⟨k, rfl⟩
    refine ⟨(⟨2, ![N, M]⟩ : Shape).rowMajor (ix2 n k), ?_, ?_⟩
    · rw [List.mem_filter]
      refine ⟨List.mem_finRange _, decide_eq_true ?_⟩
      rw [Equiv.symm_apply_apply]
      funext a
      match a with
      | 0 => exact Fin.ext (hd _)
    · rw [Equiv.symm_apply_apply]

/-- The column number at an entry. -/
theorem iota_at {N M : ℕ} (n : Fin N) (k : Fin M) : iotaInDim ⟨2, ![N, M]⟩ 32 1 (ix2 n k) = BitVec.ofNat 32 k.val := rfl

/-- An argument minimum's word read from its fold. -/
theorem argmin_fold {N M : ℕ} (f : EReal × BitVec 32 → EReal × BitVec 32 → EReal × BitVec 32)
    (h : Shape.ReducesTo ⟨2, ![N, M]⟩ [1] ⟨1, ![N]⟩) (hu : 0 < S_.numel)
    (x : FVec Ideal ⟨2, ![N, M]⟩ .f32) (y : IVec ⟨2, ![N, M]⟩ 32) (n : Fin N) :
    (Host.argReduce (φ := .f32) f x y (constant (F := Ideal) S_ .f32 0x7F800000#32) (constantI S_ 32 0#32) h hu (ix1 n)).2 =
      ((Host.argReduceFiber x y h (ix1 n)).foldl f ((⊤ : EReal), 0#32)).2 := by
  rw [Ideal.argReduce_eq_reduce2, Host.reduce2_eq_foldl_fiber]
  have ht : (constant (F := Ideal) S_ .f32 0x7F800000#32) (Shape.Idx.first hu) = (⊤ : EReal) := ofBits_top
  have hi : (constantI S_ 32 0#32) (Shape.Idx.first hu) = 0#32 := rfl
  rw [ht, hi]

end Cert.Val
-- ==== Proof.ArgA.lean ====
module

public import proofs.«01_k».proof.Proof.RefRun
public import proofs.«01_k».proof.Proof.Fold
public import proofs.«01_k».proof.Proof.RedA
public import proofs.«01_k».proof.Proof.ArgB
public import Idealize.ShloMosaic.Lib.Pointwise

@[expose] public section

set_option maxRecDepth 16384

noncomputable section
namespace Cert.Val
open Idealize.ShloMosaic Idealize.ShloMosaic.Pointwise Cert.ReferenceIdeal Cert.RefRun

/-- The word an argument minimum by a least-pair choice leaves is the first least entry of the row. -/
theorem arg_first {N : ℕ} (f : EReal × BitVec 32 → EReal × BitVec 32 → EReal × BitVec 32)
    (hs : ∀ a b, (f a b = a ∨ f a b = b) ∧ PLe (f a b) a ∧ PLe (f a b) b)
    (h : Shape.ReducesTo ⟨2, ![N, 8192]⟩ [1] ⟨1, ![N]⟩) (hu : 0 < S_.numel)
    (x : FVec Ideal ⟨2, ![N, 8192]⟩ .f32) (n : Fin N) :
    ∃ k : Fin 8192, (Host.argReduce (φ := .f32) f x (iotaInDim ⟨2, ![N, 8192]⟩ 32 1) (constant (F := Ideal) S_ .f32 0x7F800000#32) (constantI S_ 32 0#32) h hu (ix1 n)).2
      = BitVec.ofNat 32 k.val ∧ IsFirst (fun k => x (ix2 n k)) k := by
  rw [argmin_fold]
  refine foldl_first f hs (fun k => x (ix2 n k)) _ fun p => ?_
  rw [mem_fiber]
  rfl
/-- The reference's words, as the argument minimum they are. -/
theorem t23_eq {F : FTy → Type} [FloatOps F] (v22 : FVec F S8192x8192 .f32) :
    t_v23 (F := F) v22 = fun n => (Host.argReduce reducer_argmin_f32_i32 v22 (iotaInDim S8192x8192 32 1) (constant S_ .f32 0x7F800000#32)
      (constantI S_ 32 0#32) Gen.reducesTo_S8192x8192_S8192_d1 Gen.h_S_ n).2 := rfl

/-- The reference's word for the row `n` is the first least entry of the row. -/
theorem r23 (v22 : FVec Ideal S8192x8192 .f32) (v23 : IVec S8192 32) (h23 : v23 = t_v23 (F := Ideal) v22) (n : Fin 8192) :
    ∃ k : Fin 8192, v23 (ix1 n) = BitVec.ofNat 32 k.val ∧ IsFirst (fun k => v22 (ix2 n k)) k := by
  rw [h23, t23_eq]
  exact arg_first (reducer_argmin_f32_i32 (F := Ideal)) red_facts Gen.reducesTo_S8192x8192_S8192_d1 Gen.h_S_ v22 n
end Cert.Val
-- ==== Proof.RefD.lean ====
module

public import proofs.«01_k».proof.Proof.RefC
public import proofs.«01_k».proof.Proof.RefB
public import proofs.«01_k».proof.Proof.ArgA

@[expose] public section

noncomputable section
namespace Cert.Val
open Idealize.ShloMosaic Idealize.ShloMosaic.Pointwise
open Cert.ReferenceIdeal Cert.RefRun

/-- What the reference leaves at patch `p` of image `b`, from finite arguments: the normalised sum of the code nearest
    to that patch's features (the first of the nearest) and the position's encoding. -/
theorem ref_at (a0 : FVec Ideal S8x768x64x64 .f32) (a1 : FVec Ideal S32x768 .f32) (a2 : FVec Ideal S32 .f32)
    (a3 : FVec Ideal S8192x32 .f32) (a4 a5 : FVec Ideal S32 .f32)
    (h0 : ∀ i, Real' (a0 i)) (h1 : ∀ i, Real' (a1 i)) (h2 : ∀ i, Real' (a2 i)) (h3 : ∀ i, Real' (a3 i))
    (b : Fin 8) (p : Fin 1024) :
    ∃ k : Fin 8192, IsFirst (fun k => r_v22 (F := Ideal) a0 a1 a2 a3 a4 a5 (ix2 ⟨b.val * 1024 + p.val, by omega⟩ k)) k ∧
      ∀ c : Fin 32, r_v109 (F := Ideal) a0 a1 a2 a3 a4 a5 (ix3 b p c) =
        lnorm (fun c => a3 (ix2 k c) + penc c.val p.val) (a4 (ix1 c)) (a5 (ix1 c)) c := by
  obtain ⟨k, hk, hf⟩ := r23 (r_v22 (F := Ideal) a0 a1 a2 a3 a4 a5) (r_v23 (F := Ideal) a0 a1 a2 a3 a4 a5) (by unfold r_v23; rfl)
    ⟨b.val * 1024 + p.val, by omega⟩
  refine ⟨k, hf, fun c => v109_at a0 a1 a2 a3 a4 a5 b p k (fun c => ?_) c⟩
  refine v91_at a0 a1 a2 a3 a4 a5 b p c k ?_ (h3 _) ?_
  · unfold r_v8
    exact r8_real a0 a1 a2 h0 h1 h2 _ c
  · unfold r_v24
    exact r24 a3 _ _ c k hk
end Cert.Val
-- ==== Proof.KerG.lean ====
module

public import proofs.«01_k».proof.Proof.KerF
public import proofs.«01_k».proof.Proof.RefD

@[expose] public section

set_option maxRecDepth 16384

noncomputable section
namespace Cert.Val
open Idealize.ShloMosaic Idealize.ShloMosaic.TcCoe Idealize.SL.Sem Idealize.ShloMosaic.Pointwise
open Cert.KernelIdeal Cert.KernelIdeal.Gen
open Idealize.ShloMosaic.Pipeline (Dat)

/-- A block of the kernel, its operands read at an index, leaves what the reference leaves. -/
theorem block_eq (a0 : FVec Ideal S8x768x64x64 .f32) (a1 : FVec Ideal S32x768 .f32) (a2 : FVec Ideal S32 .f32)
    (a3 : FVec Ideal S8192x32 .f32) (a4 a5 : FVec Ideal S32 .f32)
    (h0 : ∀ i, Real' (a0 i)) (h1 : ∀ i, Real' (a1 i)) (h2 : ∀ i, Real' (a2 i)) (h3 : ∀ i, Real' (a3 i))
    (b : Fin 8)
    (x0 : Vec Ideal S32x1024 .bf16) (x1 : Vec Ideal S32x8192 .f32) (x2 : Vec Ideal S1x1024 .f32) (x3 : Vec Ideal S8192x1 .f32) (x4 x5 : Vec Ideal S32x1 .f32)
    (e0 : ∀ (c : Fin 32) (p : Fin 1024), x0 (ix2 c p) = Cert.RefRun.t_v8 (F := Ideal) a0 a1 a2 (ix2 ⟨b.val * 1024 + p.val, by omega⟩ c))
    (e1 : ∀ (c : Fin 32) (k : Fin 8192), x1 (ix2 c k) = a3 (ix2 k c))
    (e2 : ∀ p : Fin 1024, x2 (ix2 0 p) = ∑ x : Fin 32, Cert.RefRun.t_v8 (F := Ideal) a0 a1 a2 (ix2 ⟨b.val * 1024 + p.val, by omega⟩ x) * Cert.RefRun.t_v8 (F := Ideal) a0 a1 a2 (ix2 ⟨b.val * 1024 + p.val, by omega⟩ x))
    (e3 : ∀ k : Fin 8192, x3 (ix2 k 0) = ∑ x : Fin 32, a3 (ix2 k x) * a3 (ix2 k x))
    (e4 : ∀ c : Fin 32, x4 (ix2 c 0) = a4 (ix1 c)) (e5 : ∀ c : Fin 32, x5 (ix2 c 0) = a5 (ix1 c))
    (c : Fin 32) (p : Fin 1024) :
    out0_6 x0 x1 x2 x3 x4 x5 (ix2 c p) = Cert.RefRun.r_v109 (F := Ideal) a0 a1 a2 a3 a4 a5 (ix3 b p c) := by
  obtain ⟨k, hf, hk⟩ := kout x0 x1 x2 x3 x4 x5 (fun c k => by rw [e1]; exact h3 _) p
  obtain ⟨l, hg, hl⟩ := ref_at a0 a1 a2 a3 a4 a5 h0 h1 h2 h3 b p
  have hd : kdist x0 x1 x2 x3 p = fun k => Cert.RefRun.r_v22 (F := Ideal) a0 a1 a2 a3 a4 a5 (ix2 ⟨b.val * 1024 + p.val, by omega⟩ k) := by
    funext k
    unfold kdist Cert.RefRun.r_v22 Cert.RefRun.r_v8
    rw [r22, e2, e3]
    simp only [e0, e1]
    congr 3
    exact Finset.sum_congr rfl fun x _ => mul_comm _ _
  rw [hd] at hf
  obtain rfl := hf.unique hg
  rw [hk, hl]
  simp only [e1, e4, e5]

variable (m : (ℓ : Loc nD τ sig) → Buf (Elt Ideal) ℓ) (c : Dev nD)

/-- The result the reference makes of the launch's arguments. -/
abbrev RES : FVec Ideal S8x1024x32 .f32 :=
  Cert.RefRun.r_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- That result with the channels leading and the patches of all images in one row. -/
def ROW (v : FVec Ideal S8x1024x32 .f32) : FVec Ideal S32x8192 .f32 := fun j =>
  v (ix3 ⟨(j 1).val / 1024, by have : (j 1).val < 8192 := (j 1).isLt; omega⟩ ⟨(j 1).val % 1024, Nat.mod_lt _ (by decide)⟩ ⟨(j 0).val, (j 0).isLt⟩)

/-- The row at patch `p` of image `b`. -/
theorem row_at (v : FVec Ideal S8x1024x32 .f32) (b : Fin 8) (p : Fin 1024) (ch : Fin 32) :
    ROW v (ix2 ch ⟨b.val * 1024 + p.val, by omega⟩) = v (ix3 b p ch) := by
  have e1 : (b.val * 1024 + p.val) / 1024 = b.val := by omega
  have e2 : (b.val * 1024 + p.val) % 1024 = p.val := by omega
  show v (ix3 ⟨(b.val * 1024 + p.val) / 1024, _⟩ ⟨(b.val * 1024 + p.val) % 1024, _⟩ ch) = _
  simp only [e1, e2, Fin.eta]

/-- The four arguments whose finiteness the claim takes, with real entries on device `c`. -/
structure Fine : Prop where
  h0 : ∀ i, Real' (m ((c : Thread nD τ).loc main_arg0) i)
  h1 : ∀ i, Real' (m ((c : Thread nD τ).loc main_arg1) i)
  h2 : ∀ i, Real' (m ((c : Thread nD τ).loc main_arg2) i)
  h3 : ∀ i, Real' (m ((c : Thread nD τ).loc main_arg3) i)

/-- The block point `t` leaves, at an index. -/
theorem point (h : Fine m c) (t : Fin cfg0.N) (ch : Fin 32) (p : Fin 1024) :
    out0_6 (iblk m c 0 t) (iblk m c 1 t) (iblk m c 2 t) (iblk m c 3 t) (iblk m c 4 t) (iblk m c 5 t) (ix2 ch p) =
      RES m c (ix3 ⟨t.val, t.isLt⟩ p ch) := by
  refine block_eq _ _ _ _ _ _ h.h0 h.h1 h.h2 h.h3 ⟨t.val, t.isLt⟩ _ _ _ _ _ _ ?_ ?_ ?_ ?_ ?_ ?_ ch p
  · intro ch p; rw [b0, V_v10, h10]
  · intro ch k; rw [b1, V_v17, h17]
  · intro p; rw [b2, V_v18, h18]
  · intro k; rw [b3, V_v16, h16]
  · intro ch; rw [b4, V_v19, h19]
  · intro ch; rw [b5, V_v20, h19]

/-- The array the launch leaves. -/
theorem final (h : Fine m c) : (dats m 0 c).arrAt 6 cfg0.N = ROW (RES m c) := by
  refine (dats m 0 c).arrAt_eq_of_covers 6 _ (by decide +kernel) fun t hf y => ?_
  blk_simp
  rw [after0_6]
  obtain ⟨ch, p, rfl⟩ : ∃ (ch : Fin 32) (p : Fin 1024), y = ix2 ch p :=
    ⟨y 0, y 1, by funext a; match a with | ⟨0, _⟩ => rfl | ⟨1, _⟩ => rfl⟩
  have e : (win0_6.blk t).view.emb (ix2 ch p) = ix2 ch ⟨t.val * 1024 + p.val, rowlt t p⟩ := by
    blk_ext [idx t]
  rw [e]
  exact (point m c h t ch p).trans (row_at _ ⟨t.val, t.isLt⟩ p ch).symm

/-- The host lines after the launch bring the row back to the result. -/
theorem tail23 (v : FVec Ideal S8x1024x32 .f32) :
    shapeCast S8x1024x32 (transpose S8192x32 [1, 0] (ROW v) transposes_S32x8192_S8192x32_1_0) shapeCasts_S8192x32_S8x1024x32 = v := by
  funext j
  obtain ⟨b, p, c, rfl⟩ : ∃ b p c, j = ix3 b p c := ⟨j 0, j 1, j 2, by funext a; match a with | ⟨0, _⟩ => rfl | ⟨1, _⟩ => rfl | ⟨2, _⟩ => rfl⟩
  pointwise
  exact row_at v b p c
end Cert.Val
-- ==== Proof.PreA.lean ====
module

public import proofs.«01_k».proof.Defs
public import proofs.«01_k».proof.Proof.KerG

@[expose] public section

noncomputable section
namespace Cert.Val
open Idealize.ShloMosaic Idealize.ShloMosaic.TcCoe Idealize.SL.Sem

/-- The shape relations the precondition's operations take. -/
theorem preFacts : Cert.Pre_finite.Facts where
  bcast_S_S8x768x64x64 := by decide
  bcast_S_S32x768 := by decide
  bcast_S_S32 := by decide
  bcast_S_S8192x32 := by decide

/-- An array whose absolute values are all below infinity has real entries. -/
theorem real_of_lt {S : Shape} (x : FVec Ideal S .f32) (hb : (⟨0, ![]⟩ : Shape).BroadcastsInDim S (![] : Fin 0 → Fin S.rank))
    (h : cmpf .olt (Host.absf x) (broadcastInDim S ![] hb (constant (F := Ideal) ⟨0, ![]⟩ .f32 0x7F800000#32)) = fun _ => 1#1) (i : S.Idx) :
    Real' (x i) := by
  have e := congrFun h i
  have e' : Ideal.cmp .olt (max (x i) (-(x i))) (Ideal.ofBits .f32 0x7F800000#32) = 1#1 := e
  rw [ofBits_top] at e'
  have hlt : max (x i) (-(x i)) < ⊤ := by
    by_contra hn
    simp [Ideal.cmp, hn] at e'
  obtain ⟨h1, h2⟩ := max_lt_iff.1 hlt
  have hb : x i ≠ ⊥ := by
    intro hb
    rw [hb] at h2
    simp at h2
  exact ⟨(x i).toReal, (EReal.coe_toReal h1.ne hb).symm⟩

/-- The precondition gives the arguments real entries. -/
theorem fine_of (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : Fine m c := by
  obtain ⟨h0, h1, h2, h3⟩ := h c
  exact ⟨fun i => real_of_lt _ _ h0 i, fun i => real_of_lt _ _ h1 i, fun i => real_of_lt _ _ h2 i, fun i => real_of_lt _ _ h3 i⟩
end Cert.Val
-- ==== Proof.KerH.lean ====
module

public import proofs.«01_k».proof.Proof.KerE
public import Idealize.ShloMosaic.Lib.Claim

@[expose] public section

set_option maxRecDepth 16384

noncomputable section
namespace Cert.Val
open Idealize.ShloMosaic Idealize.ShloMosaic.TcCoe Idealize.SL.Sem Cert.KernelIdeal Cert.KernelIdeal.Gen

variable {F : FTy → Type} [FloatOps F] [Named F]
variable (m : (ℓ : Loc nD τ sig) → Buf (Elt F) ℓ) (c : Dev nD)

/-- The launch's windows are on seven different arrays. -/
theorem arr_inj : Function.Injective (Pipeline.arrRef spec0) := by decide

/-- The first result: the launch's array, transposed and cut into images. -/
theorem W_v23 : Pipeline.afterTail₀ cfgs (dats m) 0 (V0 m) [hostOps1] c main_v23 =
    shapeCast S8x1024x32 (transpose S8192x32 [1, 0] ((dats m 0 c).arrAt 6 cfg0.N) transposes_S32x8192_S8192x32_1_0) shapeCasts_S8192x32_S8x1024x32 := by
  unfold Pipeline.afterTail₀
  simp only [hostOps1, List.flatten_cons, List.flatten_nil, List.append_nil]
  after_results_simp
  refine congrArg (fun x : FVec F S32x8192 .f32 => shapeCast S8x1024x32 (transpose S8192x32 [1, 0] x transposes_S32x8192_S8192x32_1_0) shapeCasts_S8192x32_S8x1024x32) ?_
  exact Pipeline.withArrays_arr spec0 arr_inj c (V0 m c) (fun w => (dats m 0 c).arrAt w cfg0.N) 6

/-- The second result: ones. -/
theorem W_v24 : Pipeline.afterTail₀ cfgs (dats m) 0 (V0 m) [hostOps1] c main_v24 =
    broadcastInDim S8x1024 ![] bcast_S_S8x1024 (constantI S_ 32 1#32) := by
  unfold Pipeline.afterTail₀
  simp only [hostOps1, List.flatten_cons, List.flatten_nil, List.append_nil]
  after_results_simp
end Cert.Val
-- ==== Proof.Alg.lean ====
module

public import proofs.«01_k».proof.Defs
public import proofs.«01_k».proof.Proof.PreA
public import proofs.«01_k».proof.Proof.KerH
public import Idealize.ShloMosaic.Lib.Claim

@[expose] public section

set_option maxRecDepth 16384

noncomputable section
namespace Cert.Val
open Idealize.ShloMosaic Idealize.ShloMosaic.TcCoe Idealize.SL.Sem
open Idealize.ShloMosaic.Pipeline (Dat)

/-- The first result of the kernel is the reference's. -/
theorem res1 (m : (ℓ : Loc Cert.KernelIdeal.nD Cert.KernelIdeal.τ Cert.KernelIdeal.sig) → Buf (Elt Ideal) ℓ) (c : Dev Cert.KernelIdeal.nD)
    (h : Fine m c) : Pipeline.afterTail₀ Cert.KernelIdeal.cfgs (Cert.KernelIdeal.Gen.dats m) 0 (Cert.KernelIdeal.Gen.V0 m) [Cert.KernelIdeal.Gen.hostOps1] c
      Cert.KernelIdeal.main_v23 = RES m c := by
  rw [W_v23, final m c h, tail23]

/-- From finite arguments the idealized kernel and the idealized reference leave the same two results. -/
theorem algebraic : Cert.algebraic_KernelIdeal_ReferenceIdeal_pre_finite (hPre_finite := preFacts) := by
  intro m g m' g' hpre hagree
  refine ⟨fun c => RES m c, fun c => Cert.RefRun.t_v110 (F := Ideal), ?_, ?_⟩
  · run_from Cert.KernelIdeal.Gen.run_main m g
    · exact res1 m _ (fine_of m hpre _)
    · exact W_v24 m _
    · exact Cert.KernelIdeal.Gen.W_main_arg0 m _ _
    · exact Cert.KernelIdeal.Gen.W_main_arg1 m _ _
    · exact Cert.KernelIdeal.Gen.W_main_arg2 m _ _
    · exact Cert.KernelIdeal.Gen.W_main_arg3 m _ _
    · exact Cert.KernelIdeal.Gen.W_main_arg4 m _ _
    · exact Cert.KernelIdeal.Gen.W_main_arg5 m _ _
  · refine (θ_run Cert.ReferenceIdeal.defs _ _).mono (fun r h c => ?_) (Cert.RefRun.run (F := Ideal) m' g')
    obtain ⟨e0, e1, e2, e3, e4, e5⟩ := hagree c
    obtain ⟨r1, r2, ra⟩ := h c
    rw [e0, e1, e2, e3, e4, e5] at r1
    exact ⟨r1, r2, ra⟩
end Cert.Val
-- ==== Proof.lean ====
/- The proof of the certificate's claim: the frames, the named constant's rewrite, and the value claim from finite
   arguments (Proof/Alg.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Alg
public import Idealize.ShloMosaic.Lib.Claim
public import Idealize.ShloMosaic.Adequacy
public import Idealize.ShloMosaic.Init

@[expose] public section

noncomputable section

namespace Cert.Proof

open Idealize.ShloMosaic Idealize.ShloMosaic.Tactic Idealize.ShloMosaic.StableHlo Idealize.SL.Sem

/-- The idealized reference runs, leaves its arguments as they were, and has no counter to leave. -/
theorem frame_ri : Cert.quiescent_ReferenceIdeal := fun m ρ _ =>
  (θ_run Cert.ReferenceIdeal.defs _ _).mono
    (fun r h => ⟨fun c => (h c).2.2, sem_eq_zero_of_no_sems (by decide) r.2⟩) (Cert.RefRun.run (F := Ideal) m ρ)

/-- Every claim of the certificate, in order. -/
theorem claim : Cert.Claim := ⟨Cert.Kernel.Gen.facts, Cert.KernelIdeal.Gen.facts, Cert.ReferenceIdeal.Gen.facts, Cert.Val.preFacts,
  fun m ρ _ => Cert.Kernel.Gen.frame m ρ,
  fun m ρ _ => Cert.KernelIdeal.Gen.frame m ρ,
  fun m ρ _ => Cert.KernelIdeal.Gen.frame m ρ,
  frame_ri,
  fun m ρ _ => frame_ri m ρ trivial,
  IdealRules.named_const.statement Cert.KernelIdeal.κ "log_base" .f32 0x41135D8E#32 _ rfl,
  Cert.Val.algebraic⟩

end Cert.Proof

end
